-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8x1x64x64 : Shape := ⟨5, ![64, 8, 1, 64, 64]⟩
abbrev S64x1x7x7 : Shape := ⟨4, ![64, 1, 7, 7]⟩
abbrev S64 : Shape := ⟨1, ![64]⟩
abbrev S512x64x3x3 : Shape := ⟨4, ![512, 64, 3, 3]⟩
abbrev S512 : Shape := ⟨1, ![512]⟩
abbrev S512x512 : Shape := ⟨2, ![512, 512]⟩
abbrev S2x512 : Shape := ⟨2, ![2, 512]⟩
abbrev S2 : Shape := ⟨1, ![2]⟩
abbrev S512x64x64 : Shape := ⟨3, ![512, 64, 64]⟩
abbrev S_ : Shape := ⟨0, ![]⟩
abbrev S512x68x68 : Shape := ⟨3, ![512, 68, 68]⟩
abbrev S512x17x4x68 : Shape := ⟨4, ![512, 17, 4, 68]⟩
abbrev S7 : Shape := ⟨1, ![7]⟩
abbrev S7x1x1 : Shape := ⟨3, ![7, 1, 1]⟩
abbrev S1x7x1 : Shape := ⟨3, ![1, 7, 1]⟩
abbrev S16 : Shape := ⟨1, ![16]⟩
abbrev S1x1x16 : Shape := ⟨3, ![1, 1, 16]⟩
abbrev S64x7x7 : Shape := ⟨3, ![64, 7, 7]⟩
abbrev S7x7x64 : Shape := ⟨3, ![7, 7, 64]⟩
abbrev S7x7x1x64 : Shape := ⟨4, ![7, 7, 1, 64]⟩
abbrev S7x7x16x64 : Shape := ⟨4, ![7, 7, 16, 64]⟩
abbrev S7x68x16x64 : Shape := ⟨4, ![7, 68, 16, 64]⟩
abbrev S7x7x16 : Shape := ⟨3, ![7, 7, 16]⟩
abbrev S1x7x16 : Shape := ⟨3, ![1, 7, 16]⟩
abbrev S7x7x16x1 : Shape := ⟨4, ![7, 7, 16, 1]⟩
abbrev S7x7x16x3 : Shape := ⟨4, ![7, 7, 16, 3]⟩
abbrev S7x68x1024 : Shape := ⟨3, ![7, 68, 1024]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S8192x1024 : Shape := ⟨2, ![8192, 1024]⟩
abbrev S16x17x4x68 : Shape := ⟨4, ![16, 17, 4, 68]⟩
abbrev S256x1024 : Shape := ⟨2, ![256, 1024]⟩
abbrev S16x16x1x68 : Shape := ⟨4, ![16, 16, 1, 68]⟩
abbrev S16x16x68 : Shape := ⟨3, ![16, 16, 68]⟩
abbrev S256x68 : Shape := ⟨2, ![256, 68]⟩
abbrev S1x68x1024 : Shape := ⟨3, ![1, 68, 1024]⟩
abbrev S68x1024 : Shape := ⟨2, ![68, 1024]⟩
abbrev S512x4x4x4x4x64 : Shape := ⟨6, ![512, 4, 4, 4, 4, 64]⟩
abbrev S3x3x64x512 : Shape := ⟨4, ![3, 3, 64, 512]⟩
abbrev S9x64x512 : Shape := ⟨3, ![9, 64, 512]⟩
abbrev S1x512 : Shape := ⟨2, ![1, 512]⟩
abbrev S16x4x4x4x4x64 : Shape := ⟨6, ![16, 4, 4, 4, 4, 64]⟩
abbrev S16x512 : Shape := ⟨2, ![16, 512]⟩
abbrev S256x512 : Shape := ⟨2, ![256, 512]⟩
abbrev S16x4x1x4x1x64 : Shape := ⟨6, ![16, 4, 1, 4, 1, 64]⟩
abbrev S16x4x4x64 : Shape := ⟨4, ![16, 4, 4, 64]⟩
abbrev S256x64 : Shape := ⟨2, ![256, 64]⟩
abbrev S1x64x512 : Shape := ⟨3, ![1, 64, 512]⟩
abbrev S64x512 : Shape := ⟨2, ![64, 512]⟩
abbrev S16x16x512 : Shape := ⟨3, ![16, 16, 512]⟩
abbrev S64x8x512 : Shape := ⟨3, ![64, 8, 512]⟩
abbrev S64x8x8 : Shape := ⟨3, ![64, 8, 8]⟩
abbrev S64x8 : Shape := ⟨2, ![64, 8]⟩
abbrev S64x1x512 : Shape := ⟨3, ![64, 1, 512]⟩
abbrev S64x1 : Shape := ⟨2, ![64, 1]⟩
abbrev S64x1x1 : Shape := ⟨3, ![64, 1, 1]⟩
abbrev S64x1x8 : Shape := ⟨3, ![64, 1, 8]⟩
abbrev S512x2 : Shape := ⟨2, ![512, 2]⟩
abbrev S1x2 : Shape := ⟨2, ![1, 2]⟩
abbrev S64x2 : Shape := ⟨2, ![64, 2]⟩

abbrev nBuf : Space → Nat
  | .hbm => 96
  | .vmem => 34
  | .smem => 0
  | _ => 0

abbrev bufTy : (tb : Table) → Fin (tcTables nBuf tb) → BufTy
  | .hbm, ⟨0, _⟩ => ⟨S64x8x1x64x64, .f32⟩
  | .hbm, ⟨1, _⟩ => ⟨S64x1x7x7, .f32⟩
  | .hbm, ⟨2, _⟩ => ⟨S64, .f32⟩
  | .hbm, ⟨3, _⟩ => ⟨S512x64x3x3, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S2x512, .f32⟩
  | .hbm, ⟨15, _⟩ => ⟨S2, .f32⟩
  | .hbm, ⟨16, _⟩ => ⟨S512x64x64, .f32⟩
  | .hbm, ⟨17, _⟩ => ⟨S_, .i32⟩
  | .hbm, ⟨18, _⟩ => ⟨S_, .f32⟩
  | .hbm, ⟨19, _⟩ => ⟨S512x68x68, .f32⟩
  | .hbm, ⟨20, _⟩ => ⟨S512x17x4x68, .f32⟩
  | .hbm, ⟨21, _⟩ => ⟨S7, .i32⟩
  | .hbm, ⟨22, _⟩ => ⟨S7x1x1, .i32⟩
  | .hbm, ⟨23, _⟩ => ⟨S7, .i32⟩
  | .hbm, ⟨24, _⟩ => ⟨S1x7x1, .i32⟩
  | .hbm, ⟨25, _⟩ => ⟨S16, .i32⟩
  | .hbm, ⟨26, _⟩ => ⟨S1x1x16, .i32⟩
  | .hbm, ⟨27, _⟩ => ⟨S64x7x7, .f32⟩
  | .hbm, ⟨28, _⟩ => ⟨S7x7x64, .f32⟩
  | .hbm, ⟨29, _⟩ => ⟨S7x7x1x64, .f32⟩
  | .hbm, ⟨30, _⟩ => ⟨S7x7x16x64, .f32⟩
  | .hbm, ⟨31, _⟩ => ⟨S_, .f32⟩
  | .hbm, ⟨32, _⟩ => ⟨S7x68x16x64, .f32⟩
  | .hbm, ⟨33, _⟩ => ⟨S7x7x16, .i32⟩
  | .hbm, ⟨34, _⟩ => ⟨S_, .i32⟩
  | .hbm, ⟨35, _⟩ => ⟨S1x1x16, .i32⟩
  | .hbm, ⟨36, _⟩ => ⟨S1x1x16, .i32⟩
  | .hbm, ⟨37, _⟩ => ⟨S1x7x16, .i32⟩
  | .hbm, ⟨38, _⟩ => ⟨S1x7x16, .i32⟩
  | .hbm, ⟨39, _⟩ => ⟨S1x7x16, .i32⟩
  | .hbm, ⟨40, _⟩ => ⟨S7x7x16, .i32⟩
  | .hbm, ⟨41, _⟩ => ⟨S7x7x16, .i32⟩
  | .hbm, ⟨42, _⟩ => ⟨S_, .i32⟩
  | .hbm, ⟨43, _⟩ => ⟨S7x7x16, .i32⟩
  | .hbm, ⟨44, _⟩ => ⟨S7x7x16, .i1⟩
  | .hbm, ⟨45, _⟩ => ⟨S_, .i32⟩
  | .hbm, ⟨46, _⟩ => ⟨S7x7x16, .i32⟩
  | .hbm, ⟨47, _⟩ => ⟨S7x7x16, .i32⟩
  | .hbm, ⟨48, _⟩ => ⟨S7x7x16, .i32⟩
  | .hbm, ⟨49, _⟩ => ⟨S_, .i32⟩
  | .hbm, ⟨50, _⟩ => ⟨S7x7x16, .i32⟩
  | .hbm, ⟨51, _⟩ => ⟨S7x7x16, .i1⟩
  | .hbm, ⟨52, _⟩ => ⟨S_, .i32⟩
  | .hbm, ⟨53, _⟩ => ⟨S7x7x16, .i32⟩
  | .hbm, ⟨54, _⟩ => ⟨S7x7x16, .i32⟩
  | .hbm, ⟨55, _⟩ => ⟨S7x7x16, .i32⟩
  | .hbm, ⟨56, _⟩ => ⟨S_, .i32⟩
  | .hbm, ⟨57, _⟩ => ⟨S7x7x16, .i32⟩
  | .hbm, ⟨58, _⟩ => ⟨S7x7x16, .i1⟩
  | .hbm, ⟨59, _⟩ => ⟨S_, .i32⟩
  | .hbm, ⟨60, _⟩ => ⟨S7x7x16, .i32⟩
  | .hbm, ⟨61, _⟩ => ⟨S7x7x16, .i32⟩
  | .hbm, ⟨62, _⟩ => ⟨S7x7x16, .i32⟩
  | .hbm, ⟨63, _⟩ => ⟨S7x7x16x1, .i32⟩
  | .hbm, ⟨64, _⟩ => ⟨S7x7x16x1, .i32⟩
  | .hbm, ⟨65, _⟩ => ⟨S7x7x16x1, .i32⟩
  | .hbm, ⟨66, _⟩ => ⟨S7x7x16x3, .i32⟩
  | .hbm, ⟨67, _⟩ => ⟨S7x68x16x64, .f32⟩
  | .hbm, ⟨68, _⟩ => ⟨S7x68x1024, .f32⟩
  | .hbm, ⟨69, _⟩ => ⟨S7x68x1024, .bf16⟩
  | .hbm, ⟨70, _⟩ => ⟨S1x64, .f32⟩
  | .hbm, ⟨71, _⟩ => ⟨S16x64, .f32⟩
  | .hbm, ⟨72, _⟩ => ⟨S1024, .f32⟩
  | .hbm, ⟨73, _⟩ => ⟨S1x1024, .f32⟩
  | .hbm, ⟨74, _⟩ => ⟨S8192x1024, .bf16⟩
  | .hbm, ⟨75, _⟩ => ⟨S512x4x4x4x4x64, .bf16⟩
  | .hbm, ⟨76, _⟩ => ⟨S3x3x64x512, .f32⟩
  | .hbm, ⟨77, _⟩ => ⟨S9x64x512, .f32⟩
  | .hbm, ⟨78, _⟩ => ⟨S1x512, .f32⟩
  | .hbm, ⟨79, _⟩ => ⟨S512x512, .f32⟩
  | .hbm, ⟨80, _⟩ => ⟨S64x8x512, .f32⟩
  | .hbm, ⟨81, _⟩ => ⟨S64x8x8, .f32⟩
  | .hbm, ⟨82, _⟩ => ⟨S512x512, .f32⟩
  | .hbm, ⟨83, _⟩ => ⟨S512x512, .f32⟩
  | .hbm, ⟨84, _⟩ => ⟨S1x512, .f32⟩
  | .hbm, ⟨85, _⟩ => ⟨S512x512, .f32⟩
  | .hbm, ⟨86, _⟩ => ⟨S512x512, .f32⟩
  | .hbm, ⟨87, _⟩ => ⟨S512x512, .f32⟩
  | .hbm, ⟨88, _⟩ => ⟨S1x512, .f32⟩
  | .hbm, ⟨89, _⟩ => ⟨S512x512, .f32⟩
  | .hbm, ⟨90, _⟩ => ⟨S512x512, .f32⟩
  | .hbm, ⟨91, _⟩ => ⟨S512x512, .f32⟩
  | .hbm, ⟨92, _⟩ => ⟨S1x512, .f32⟩
  | .hbm, ⟨93, _⟩ => ⟨S512x2, .f32⟩
  | .hbm, ⟨94, _⟩ => ⟨S1x2, .f32⟩
  | .hbm, ⟨95, _⟩ => ⟨S64x2, .f32⟩
  | .local _ .vmem, ⟨0, _⟩ => ⟨S16x17x4x68, .f32⟩
  | .local _ .vmem, ⟨1, _⟩ => ⟨S16x17x4x68, .f32⟩
  | .local _ .vmem, ⟨2, _⟩ => ⟨S7x68x1024, .bf16⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S16x4x4x4x4x64, .bf16⟩
  | .local _ .vmem, ⟨7, _⟩ => ⟨S16x4x4x4x4x64, .bf16⟩
  | .local _ .vmem, ⟨8, _⟩ => ⟨S9x64x512, .f32⟩
  | .local _ .vmem, ⟨9, _⟩ => ⟨S1x512, .f32⟩
  | .local _ .vmem, ⟨10, _⟩ => ⟨S16x512, .f32⟩
  | .local _ .vmem, ⟨11, _⟩ => ⟨S16x512, .f32⟩
  | .local _ .vmem, ⟨12, _⟩ => ⟨S64x8x512, .f32⟩
  | .local _ .vmem, ⟨13, _⟩ => ⟨S64x8x8, .f32⟩
  | .local _ .vmem, ⟨14, _⟩ => ⟨S512x512, .f32⟩
  | .local _ .vmem, ⟨15, _⟩ => ⟨S64x8x8, .f32⟩
  | .local _ .vmem, ⟨16, _⟩ => ⟨S512x512, .f32⟩
  | .local _ .vmem, ⟨17, _⟩ => ⟨S512x512, .f32⟩
  | .local _ .vmem, ⟨18, _⟩ => ⟨S1x512, .f32⟩
  | .local _ .vmem, ⟨19, _⟩ => ⟨S512x512, .f32⟩
  | .local _ .vmem, ⟨20, _⟩ => ⟨S512x512, .f32⟩
  | .local _ .vmem, ⟨21, _⟩ => ⟨S64x8x8, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | .local _ .vmem, ⟨25, _⟩ => ⟨S512x512, .f32⟩
  | .local _ .vmem, ⟨26, _⟩ => ⟨S512x512, .f32⟩
  | .local _ .vmem, ⟨27, _⟩ => ⟨S64x8x8, .f32⟩
  | .local _ .vmem, ⟨28, _⟩ => ⟨S512x512, .f32⟩
  | .local _ .vmem, ⟨29, _⟩ => ⟨S512x512, .f32⟩
  | .local _ .vmem, ⟨30, _⟩ => ⟨S1x512, .f32⟩
  | .local _ .vmem, ⟨31, _⟩ => ⟨S512x2, .f32⟩
  | .local _ .vmem, ⟨32, _⟩ => ⟨S1x2, .f32⟩
  | .local _ .vmem, ⟨33, _⟩ => ⟨S64x2, .f32⟩
  | _, _ => ⟨S64x8x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg5_0 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc5_stg4_0 : Ref sig .tc := ⟨.vmem, 30, rfl⟩
abbrev cc5_stg5_0 : Ref sig .tc := ⟨.vmem, 31, rfl⟩
abbrev cc5_stg6_0 : Ref sig .tc := ⟨.vmem, 32, rfl⟩
abbrev cc5_stg7_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc3_sem0_0 : DmaSem sig := 14
abbrev cc3_sem1_0 : DmaSem sig := 15
abbrev cc3_sem2_0 : DmaSem sig := 16
abbrev cc3_sem3_0 : DmaSem sig := 17
abbrev cc3_sem4_0 : DmaSem sig := 18
abbrev cc3_sem5_0 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25
abbrev cc5_sem0_0 : DmaSem sig := 26
abbrev cc5_sem1_0 : DmaSem sig := 27
abbrev cc5_sem2_0 : DmaSem sig := 28
abbrev cc5_sem3_0 : DmaSem sig := 29
abbrev cc5_sem4_0 : DmaSem sig := 30
abbrev cc5_sem5_0 : DmaSem sig := 31
abbrev cc5_sem6_0 : DmaSem sig := 32
abbrev cc5_sem7_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x17x4x68 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x68x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x4x4x4x4x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S64x8x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x8x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev grid3 : Pipeline.Grid := .none

abbrev stage3_0 : Fin 1 → Memref sig .tc .vmem S512x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x8x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev grid4 : Pipeline.Grid := .none

abbrev stage4_0 : Fin 1 → Memref sig .tc .vmem S512x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S64x8x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S512x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S512x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev grid5 : Pipeline.Grid := .none

abbrev stage5_0 : Fin 1 → Memref sig .tc .vmem S512x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S64x8x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S512x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S512x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S512x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S1x2 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S64x2 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
-- ==== KernelIdeal.lean ====
variable {F : FTy → Type} [FloatOps F] [Named F]
def κ : String → Option EReal := fun
  | "third" => some ((1 / 3 : ℝ) : EReal)
  | _ => none
-- ==== ReferenceIdeal.lean ====
abbrev S64x8x1x64x64 : Shape := ⟨5, ![64, 8, 1, 64, 64]⟩
abbrev S64x1x7x7 : Shape := ⟨4, ![64, 1, 7, 7]⟩
abbrev S64 : Shape := ⟨1, ![64]⟩
abbrev S512x64x3x3 : Shape := ⟨4, ![512, 64, 3, 3]⟩
abbrev S512 : Shape := ⟨1, ![512]⟩
abbrev S512x512 : Shape := ⟨2, ![512, 512]⟩
abbrev S2x512 : Shape := ⟨2, ![2, 512]⟩
abbrev S2 : Shape := ⟨1, ![2]⟩
abbrev S512x1x64x64 : Shape := ⟨4, ![512, 1, 64, 64]⟩
abbrev S_ : Shape := ⟨0, ![]⟩
abbrev S512x1x67x67 : Shape := ⟨4, ![512, 1, 67, 67]⟩
abbrev S512x1x16x67 : Shape := ⟨4, ![512, 1, 16, 67]⟩
abbrev S512x1x1x16x67 : Shape := ⟨5, ![512, 1, 1, 16, 67]⟩
abbrev S512x1x7x16x67 : Shape := ⟨5, ![512, 1, 7, 16, 67]⟩
abbrev S512x1x7x16x16 : Shape := ⟨5, ![512, 1, 7, 16, 16]⟩
abbrev S512x1x7x1x16x16 : Shape := ⟨6, ![512, 1, 7, 1, 16, 16]⟩
abbrev S512x1x7x7x16x16 : Shape := ⟨6, ![512, 1, 7, 7, 16, 16]⟩
abbrev S64x512x16x16 : Shape := ⟨4, ![64, 512, 16, 16]⟩
abbrev S512x64x16x16 : Shape := ⟨4, ![512, 64, 16, 16]⟩
abbrev S1x64x1x1 : Shape := ⟨4, ![1, 64, 1, 1]⟩
abbrev S512x64x4x16 : Shape := ⟨4, ![512, 64, 4, 16]⟩
abbrev S512x64x1x4x16 : Shape := ⟨5, ![512, 64, 1, 4, 16]⟩
abbrev S512x64x3x4x16 : Shape := ⟨5, ![512, 64, 3, 4, 16]⟩
abbrev S512x64x3x4x4 : Shape := ⟨5, ![512, 64, 3, 4, 4]⟩
abbrev S512x64x3x1x4x4 : Shape := ⟨6, ![512, 64, 3, 1, 4, 4]⟩
abbrev S512x64x3x3x4x4 : Shape := ⟨6, ![512, 64, 3, 3, 4, 4]⟩
abbrev S512x512x4x4 : Shape := ⟨4, ![512, 512, 4, 4]⟩
abbrev S1x512x1x1 : Shape := ⟨4, ![1, 512, 1, 1]⟩
abbrev S64x8x512 : Shape := ⟨3, ![64, 8, 512]⟩
abbrev S64x8 : Shape := ⟨2, ![64, 8]⟩
abbrev S64x8x1 : Shape := ⟨3, ![64, 8, 1]⟩
abbrev S64x512x8 : Shape := ⟨3, ![64, 512, 8]⟩
abbrev S64x8x8 : Shape := ⟨3, ![64, 8, 8]⟩
abbrev S64x8x3 : Shape := ⟨3, ![64, 8, 3]⟩
abbrev S64x24 : Shape := ⟨2, ![64, 24]⟩
abbrev S8 : Shape := ⟨1, ![8]⟩
abbrev S8x3 : Shape := ⟨2, ![8, 3]⟩
abbrev S24 : Shape := ⟨1, ![24]⟩
abbrev S64x1x24 : Shape := ⟨3, ![64, 1, 24]⟩
abbrev S64x2x24 : Shape := ⟨3, ![64, 2, 24]⟩
abbrev S64x1x1 : Shape := ⟨3, ![64, 1, 1]⟩
abbrev S2x64x24 : Shape := ⟨3, ![2, 64, 24]⟩
abbrev S2x1536 : Shape := ⟨2, ![2, 1536]⟩
abbrev S1x1536 : Shape := ⟨2, ![1, 1536]⟩
abbrev S1536 : Shape := ⟨1, ![1536]⟩
abbrev S1536x1 : Shape := ⟨2, ![1536, 1]⟩
abbrev S1536x512 : Shape := ⟨2, ![1536, 512]⟩
abbrev S512x1 : Shape := ⟨2, ![512, 1]⟩
abbrev S1x512 : Shape := ⟨2, ![1, 512]⟩
abbrev S64x512 : Shape := ⟨2, ![64, 512]⟩
abbrev S512x2 : Shape := ⟨2, ![512, 2]⟩
abbrev S64x2 : Shape := ⟨2, ![64, 2]⟩
abbrev S1x2 : Shape := ⟨2, ![1, 2]⟩

abbrev nBuf : Space → Nat
  | .hbm => 292
  | .vmem => 0
  | .smem => 0
  | _ => 0

abbrev hbmTy0_0 (i : Nat) : BufTy := match i % 128 with
  | 0 => ⟨S64x8x1x64x64, .f32⟩
  | 1 => ⟨S64x1x7x7, .f32⟩
  | 2 => ⟨S64, .f32⟩
  | 3 => ⟨S512x64x3x3, .f32⟩
  | 4 => ⟨S512, .f32⟩
  | 5 => ⟨S512x512, .f32⟩
  | 6 => ⟨S512x512, .f32⟩
  | 7 => ⟨S512, .f32⟩
  | 8 => ⟨S512x512, .f32⟩
  | 9 => ⟨S512x512, .f32⟩
  | 10 => ⟨S512, .f32⟩
  | 11 => ⟨S512x512, .f32⟩
  | 12 => ⟨S512x512, .f32⟩
  | 13 => ⟨S512, .f32⟩
  | 14 => ⟨S2x512, .f32⟩
  | 15 => ⟨S2, .f32⟩
  | 16 => ⟨S512x1x64x64, .f32⟩
  | 17 => ⟨S_, .i32⟩
  | 18 => ⟨S_, .f32⟩
  | 19 => ⟨S512x1x67x67, .f32⟩
  | 20 => ⟨S512x1x16x67, .f32⟩
  | 21 => ⟨S512x1x16x67, .f32⟩
  | 22 => ⟨S512x1x16x67, .f32⟩
  | 23 => ⟨S512x1x16x67, .f32⟩
  | 24 => ⟨S512x1x16x67, .f32⟩
  | 25 => ⟨S512x1x16x67, .f32⟩
  | 26 => ⟨S512x1x16x67, .f32⟩
  | 27 => ⟨S512x1x1x16x67, .f32⟩
  | 28 => ⟨S512x1x1x16x67, .f32⟩
  | 29 => ⟨S512x1x1x16x67, .f32⟩
  | 30 => ⟨S512x1x1x16x67, .f32⟩
  | 31 => ⟨S512x1x1x16x67, .f32⟩
  | 32 => ⟨S512x1x1x16x67, .f32⟩
  | 33 => ⟨S512x1x1x16x67, .f32⟩
  | 34 => ⟨S512x1x7x16x67, .f32⟩
  | 35 => ⟨S512x1x7x16x16, .f32⟩
  | 36 => ⟨S512x1x7x16x16, .f32⟩
  | 37 => ⟨S512x1x7x16x16, .f32⟩
  | 38 => ⟨S512x1x7x16x16, .f32⟩
  | 39 => ⟨S512x1x7x16x16, .f32⟩
  | 40 => ⟨S512x1x7x16x16, .f32⟩
  | 41 => ⟨S512x1x7x16x16, .f32⟩
  | 42 => ⟨S512x1x7x1x16x16, .f32⟩
  | 43 => ⟨S512x1x7x1x16x16, .f32⟩
  | 44 => ⟨S512x1x7x1x16x16, .f32⟩
  | 45 => ⟨S512x1x7x1x16x16, .f32⟩
  | 46 => ⟨S512x1x7x1x16x16, .f32⟩
  | 47 => ⟨S512x1x7x1x16x16, .f32⟩
  | 48 => ⟨S512x1x7x1x16x16, .f32⟩
  | 49 => ⟨S512x1x7x7x16x16, .f32⟩
  | 50 => ⟨S64x512x16x16, .f32⟩
  | 51 => ⟨S512x64x16x16, .f32⟩
  | 52 => ⟨S1x64x1x1, .f32⟩
  | 53 => ⟨S512x64x16x16, .f32⟩
  | 54 => ⟨S512x64x16x16, .f32⟩
  | 55 => ⟨S_, .f32⟩
  | 56 => ⟨S512x64x16x16, .f32⟩
  | 57 => ⟨S512x64x16x16, .f32⟩
  | 58 => ⟨S_, .i32⟩
  | 59 => ⟨S_, .f32⟩
  | 60 => ⟨S512x64x16x16, .f32⟩
  | 61 => ⟨S512x64x4x16, .f32⟩
  | 62 => ⟨S512x64x4x16, .f32⟩
  | 63 => ⟨S512x64x4x16, .f32⟩
  | 64 => ⟨S512x64x1x4x16, .f32⟩
  | 65 => ⟨S512x64x1x4x16, .f32⟩
  | 66 => ⟨S512x64x1x4x16, .f32⟩
  | 67 => ⟨S512x64x3x4x16, .f32⟩
  | 68 => ⟨S512x64x3x4x4, .f32⟩
  | 69 => ⟨S512x64x3x4x4, .f32⟩
  | 70 => ⟨S512x64x3x4x4, .f32⟩
  | 71 => ⟨S512x64x3x1x4x4, .f32⟩
  | 72 => ⟨S512x64x3x1x4x4, .f32⟩
  | 73 => ⟨S512x64x3x1x4x4, .f32⟩
  | 74 => ⟨S512x64x3x3x4x4, .f32⟩
  | 75 => ⟨S512x512x4x4, .f32⟩
  | 76 => ⟨S512x512x4x4, .f32⟩
  | 77 => ⟨S1x512x1x1, .f32⟩
  | 78 => ⟨S512x512x4x4, .f32⟩
  | 79 => ⟨S512x512x4x4, .f32⟩
  | 80 => ⟨S_, .f32⟩
  | 81 => ⟨S512x512x4x4, .f32⟩
  | 82 => ⟨S512x512x4x4, .f32⟩
  | 83 => ⟨S_, .f32⟩
  | 84 => ⟨S512x512, .f32⟩
  | 85 => ⟨S_, .f32⟩
  | 86 => ⟨S512x512, .f32⟩
  | 87 => ⟨S512x512, .f32⟩
  | 88 => ⟨S64x8x512, .f32⟩
  | 89 => ⟨S64x8x512, .f32⟩
  | 90 => ⟨S_, .f32⟩
  | 91 => ⟨S64x8, .f32⟩
  | 92 => ⟨S64x8x1, .f32⟩
  | 93 => ⟨S64x8x1, .f32⟩
  | 94 => ⟨S_, .f32⟩
  | 95 => ⟨S64x8x1, .f32⟩
  | 96 => ⟨S64x8x1, .f32⟩
  | 97 => ⟨S64x8x512, .f32⟩
  | 98 => ⟨S64x8x512, .f32⟩
  | 99 => ⟨S64x512x8, .f32⟩
  | 100 => ⟨S64x8x8, .f32⟩
  | 101 => ⟨S64x8x3, .f32⟩
  | 102 => ⟨S64x8x3, .i32⟩
  | 103 => ⟨S64x24, .i32⟩
  | 104 => ⟨S8, .i32⟩
  | 105 => ⟨S8x3, .i32⟩
  | 106 => ⟨S24, .i32⟩
  | 107 => ⟨S64x24, .i32⟩
  | 108 => ⟨S64x1x24, .i32⟩
  | 109 => ⟨S64x1x24, .i32⟩
  | 110 => ⟨S64x2x24, .i32⟩
  | 111 => ⟨S64, .i32⟩
  | 112 => ⟨S_, .i32⟩
  | 113 => ⟨S64, .i32⟩
  | 114 => ⟨S64, .i32⟩
  | 115 => ⟨S64x1x1, .i32⟩
  | 116 => ⟨S64x2x24, .i32⟩
  | 117 => ⟨S64x2x24, .i32⟩
  | 118 => ⟨S2x64x24, .i32⟩
  | 119 => ⟨S2x1536, .i32⟩
  | 120 => ⟨S1x1536, .i32⟩
  | 121 => ⟨S1536, .i32⟩
  | 122 => ⟨S1x1536, .i32⟩
  | 123 => ⟨S1536, .i32⟩
  | 124 => ⟨S_, .f32⟩
  | 125 => ⟨S512x512, .f32⟩
  | 126 => ⟨S_, .i32⟩
  | 127 => ⟨S1536, .i32⟩
  | _ => ⟨S64x8x1x64x64, .f32⟩

abbrev hbmTy0_1 (i : Nat) : BufTy := match i % 128 with
  | 0 => ⟨S1536, .i1⟩
  | 1 => ⟨S_, .i32⟩
  | 2 => ⟨S1536, .i32⟩
  | 3 => ⟨S1536, .i32⟩
  | 4 => ⟨S1536, .i32⟩
  | 5 => ⟨S1536x1, .i32⟩
  | 6 => ⟨S1536x512, .f32⟩
  | 7 => ⟨S_, .i32⟩
  | 8 => ⟨S1536, .i32⟩
  | 9 => ⟨S1536, .i1⟩
  | 10 => ⟨S_, .i32⟩
  | 11 => ⟨S1536, .i32⟩
  | 12 => ⟨S1536, .i32⟩
  | 13 => ⟨S1536, .i32⟩
  | 14 => ⟨S1536x1, .i32⟩
  | 15 => ⟨S512x512, .f32⟩
  | 16 => ⟨S_, .f32⟩
  | 17 => ⟨S512, .f32⟩
  | 18 => ⟨S_, .i32⟩
  | 19 => ⟨S1536, .i32⟩
  | 20 => ⟨S1536, .i1⟩
  | 21 => ⟨S_, .i32⟩
  | 22 => ⟨S1536, .i32⟩
  | 23 => ⟨S1536, .i32⟩
  | 24 => ⟨S1536, .i32⟩
  | 25 => ⟨S1536x1, .i32⟩
  | 26 => ⟨S_, .f32⟩
  | 27 => ⟨S1536, .f32⟩
  | 28 => ⟨S512, .f32⟩
  | 29 => ⟨S_, .f32⟩
  | 30 => ⟨S512, .f32⟩
  | 31 => ⟨S512, .f32⟩
  | 32 => ⟨S512x1, .f32⟩
  | 33 => ⟨S512x512, .f32⟩
  | 34 => ⟨S512x512, .f32⟩
  | 35 => ⟨S512x512, .f32⟩
  | 36 => ⟨S512x512, .f32⟩
  | 37 => ⟨S512x512, .f32⟩
  | 38 => ⟨S512x512, .f32⟩
  | 39 => ⟨S512x512, .f32⟩
  | 40 => ⟨S1x512, .f32⟩
  | 41 => ⟨S512x512, .f32⟩
  | 42 => ⟨S512x512, .f32⟩
  | 43 => ⟨S_, .f32⟩
  | 44 => ⟨S_, .f32⟩
  | 45 => ⟨S512x512, .f32⟩
  | 46 => ⟨S512x512, .i1⟩
  | 47 => ⟨S_, .f32⟩
  | 48 => ⟨S512x512, .f32⟩
  | 49 => ⟨S512x512, .f32⟩
  | 50 => ⟨S512x512, .f32⟩
  | 51 => ⟨S_, .f32⟩
  | 52 => ⟨S512x512, .f32⟩
  | 53 => ⟨S_, .i32⟩
  | 54 => ⟨S1536, .i32⟩
  | 55 => ⟨S1536, .i1⟩
  | 56 => ⟨S_, .i32⟩
  | 57 => ⟨S1536, .i32⟩
  | 58 => ⟨S1536, .i32⟩
  | 59 => ⟨S1536, .i32⟩
  | 60 => ⟨S1536x1, .i32⟩
  | 61 => ⟨S1536x512, .f32⟩
  | 62 => ⟨S_, .i32⟩
  | 63 => ⟨S1536, .i32⟩
  | 64 => ⟨S1536, .i1⟩
  | 65 => ⟨S_, .i32⟩
  | 66 => ⟨S1536, .i32⟩
  | 67 => ⟨S1536, .i32⟩
  | 68 => ⟨S1536, .i32⟩
  | 69 => ⟨S1536x1, .i32⟩
  | 70 => ⟨S512x512, .f32⟩
  | 71 => ⟨S_, .f32⟩
  | 72 => ⟨S512, .f32⟩
  | 73 => ⟨S_, .i32⟩
  | 74 => ⟨S1536, .i32⟩
  | 75 => ⟨S1536, .i1⟩
  | 76 => ⟨S_, .i32⟩
  | 77 => ⟨S1536, .i32⟩
  | 78 => ⟨S1536, .i32⟩
  | 79 => ⟨S1536, .i32⟩
  | 80 => ⟨S1536x1, .i32⟩
  | 81 => ⟨S_, .f32⟩
  | 82 => ⟨S1536, .f32⟩
  | 83 => ⟨S512, .f32⟩
  | 84 => ⟨S_, .f32⟩
  | 85 => ⟨S512, .f32⟩
  | 86 => ⟨S512, .f32⟩
  | 87 => ⟨S512x1, .f32⟩
  | 88 => ⟨S512x512, .f32⟩
  | 89 => ⟨S512x512, .f32⟩
  | 90 => ⟨S512x512, .f32⟩
  | 91 => ⟨S512x512, .f32⟩
  | 92 => ⟨S512x512, .f32⟩
  | 93 => ⟨S512x512, .f32⟩
  | 94 => ⟨S512x512, .f32⟩
  | 95 => ⟨S1x512, .f32⟩
  | 96 => ⟨S512x512, .f32⟩
  | 97 => ⟨S512x512, .f32⟩
  | 98 => ⟨S_, .f32⟩
  | 99 => ⟨S_, .f32⟩
  | 100 => ⟨S512x512, .f32⟩
  | 101 => ⟨S512x512, .i1⟩
  | 102 => ⟨S_, .f32⟩
  | 103 => ⟨S512x512, .f32⟩
  | 104 => ⟨S512x512, .f32⟩
  | 105 => ⟨S512x512, .f32⟩
  | 106 => ⟨S_, .f32⟩
  | 107 => ⟨S512x512, .f32⟩
  | 108 => ⟨S_, .i32⟩
  | 109 => ⟨S1536, .i32⟩
  | 110 => ⟨S1536, .i1⟩
  | 111 => ⟨S_, .i32⟩
  | 112 => ⟨S1536, .i32⟩
  | 113 => ⟨S1536, .i32⟩
  | 114 => ⟨S1536, .i32⟩
  | 115 => ⟨S1536x1, .i32⟩
  | 116 => ⟨S1536x512, .f32⟩
  | 117 => ⟨S_, .i32⟩
  | 118 => ⟨S1536, .i32⟩
  | 119 => ⟨S1536, .i1⟩
  | 120 => ⟨S_, .i32⟩
  | 121 => ⟨S1536, .i32⟩
  | 122 => ⟨S1536, .i32⟩
  | 123 => ⟨S1536, .i32⟩
  | 124 => ⟨S1536x1, .i32⟩
  | 125 => ⟨S512x512, .f32⟩
  | 126 => ⟨S_, .f32⟩
  | 127 => ⟨S512, .f32⟩
  | _ => ⟨S64x8x1x64x64, .f32⟩

abbrev hbmTy0_2 (i : Nat) : BufTy := match i % 128 with
  | 0 => ⟨S_, .i32⟩
  | 1 => ⟨S1536, .i32⟩
  | 2 => ⟨S1536, .i1⟩
  | 3 => ⟨S_, .i32⟩
  | 4 => ⟨S1536, .i32⟩
  | 5 => ⟨S1536, .i32⟩
  | 6 => ⟨S1536, .i32⟩
  | 7 => ⟨S1536x1, .i32⟩
  | 8 => ⟨S_, .f32⟩
  | 9 => ⟨S1536, .f32⟩
  | 10 => ⟨S512, .f32⟩
  | 11 => ⟨S_, .f32⟩
  | 12 => ⟨S512, .f32⟩
  | 13 => ⟨S512, .f32⟩
  | 14 => ⟨S512x1, .f32⟩
  | 15 => ⟨S512x512, .f32⟩
  | 16 => ⟨S512x512, .f32⟩
  | 17 => ⟨S512x512, .f32⟩
  | 18 => ⟨S512x512, .f32⟩
  | 19 => ⟨S512x512, .f32⟩
  | 20 => ⟨S512x512, .f32⟩
  | 21 => ⟨S512x512, .f32⟩
  | 22 => ⟨S1x512, .f32⟩
  | 23 => ⟨S512x512, .f32⟩
  | 24 => ⟨S512x512, .f32⟩
  | 25 => ⟨S64x8x512, .f32⟩
  | 26 => ⟨S_, .f32⟩
  | 27 => ⟨S64x512, .f32⟩
  | 28 => ⟨S_, .f32⟩
  | 29 => ⟨S64x512, .f32⟩
  | 30 => ⟨S64x512, .f32⟩
  | 31 => ⟨S512x2, .f32⟩
  | 32 => ⟨S64x2, .f32⟩
  | 33 => ⟨S1x2, .f32⟩
  | 34 => ⟨S64x2, .f32⟩
  | 35 => ⟨S64x2, .f32⟩
  | _ => ⟨S64x8x1x64x64, .f32⟩

abbrev hbmTy (i : Nat) : BufTy := match i / 128 with
  | 0 => hbmTy0_0 i
  | 1 => hbmTy0_1 i
  | 2 => hbmTy0_2 i
  | _ => ⟨S64x8x1x64x64, .f32⟩

abbrev bufTy : (tb : Table) → Fin (tcTables nBuf tb) → BufTy
  | .hbm, ⟨i, _⟩ => hbmTy i
  | _, _ => ⟨S64x8x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_c_0 : Ref sig .tc := ⟨.hbm, 58, rfl⟩
abbrev main_call2_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call3_cst : Ref sig .tc := ⟨.hbm, 80, rfl⟩
abbrev main_call3_v0 : Ref sig .tc := ⟨.hbm, 81, rfl⟩
abbrev main_v58 : Ref sig .tc := ⟨.hbm, 82, rfl⟩
abbrev main_cst : Ref sig .tc := ⟨.hbm, 83, rfl⟩
abbrev main_v59 : Ref sig .tc := ⟨.hbm, 84, rfl⟩
abbrev main_cst_1 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call4_v0 : Ref sig .tc := ⟨.hbm, 89, rfl⟩
abbrev main_call4_cst : Ref sig .tc := ⟨.hbm, 90, rfl⟩
abbrev main_call4_v1 : Ref sig .tc := ⟨.hbm, 91, rfl⟩
abbrev main_call4_v2 : Ref sig .tc := ⟨.hbm, 92, rfl⟩
abbrev main_v63 : Ref sig .tc := ⟨.hbm, 93, rfl⟩
abbrev main_cst_2 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_values : Ref sig .tc := ⟨.hbm, 101, rfl⟩
abbrev main_indices : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_3 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_4 : Ref sig .tc := ⟨.hbm, 124, rfl⟩
abbrev main_v90 : Ref sig .tc := ⟨.hbm, 125, rfl⟩
abbrev main_c_5 : Ref sig .tc := ⟨.hbm, 126, rfl⟩
abbrev main_v91 : Ref sig .tc := ⟨.hbm, 127, rfl⟩
abbrev main_v92 : Ref sig .tc := ⟨.hbm, 128, rfl⟩
abbrev main_c_6 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_7 : Ref sig .tc := ⟨.hbm, 135, rfl⟩
abbrev main_v98 : Ref sig .tc := ⟨.hbm, 136, rfl⟩
abbrev main_v99 : Ref sig .tc := ⟨.hbm, 137, rfl⟩
abbrev main_c_8 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_9 : Ref sig .tc := ⟨.hbm, 144, rfl⟩
abbrev main_v105 : Ref sig .tc := ⟨.hbm, 145, rfl⟩
abbrev main_c_10 : Ref sig .tc := ⟨.hbm, 146, rfl⟩
abbrev main_v106 : Ref sig .tc := ⟨.hbm, 147, rfl⟩
abbrev main_v107 : Ref sig .tc := ⟨.hbm, 148, rfl⟩
abbrev main_c_11 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_12 : Ref sig .tc := ⟨.hbm, 154, rfl⟩
abbrev main_v112 : Ref sig .tc := ⟨.hbm, 155, rfl⟩
abbrev main_v113 : Ref sig .tc := ⟨.hbm, 156, rfl⟩
abbrev main_cst_13 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_14 : Ref sig .tc := ⟨.hbm, 171, rfl⟩
abbrev main_call5_cst : Ref sig .tc := ⟨.hbm, 172, rfl⟩
abbrev main_call5_v0 : Ref sig .tc := ⟨.hbm, 173, rfl⟩
abbrev main_call5_v1 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_v127 : Ref sig .tc := ⟨.hbm, 178, rfl⟩
abbrev main_cst_15 : Ref sig .tc := ⟨.hbm, 179, rfl⟩
abbrev main_v128 : Ref sig .tc := ⟨.hbm, 180, rfl⟩
abbrev main_c_16 : Ref sig .tc := ⟨.hbm, 181, rfl⟩
abbrev main_v129 : Ref sig .tc := ⟨.hbm, 182, rfl⟩
abbrev main_v130 : Ref sig .tc := ⟨.hbm, 183, rfl⟩
abbrev main_c_17 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_c_18 : Ref sig .tc := ⟨.hbm, 190, rfl⟩
abbrev main_v136 : Ref sig .tc := ⟨.hbm, 191, rfl⟩
abbrev main_v137 : Ref sig .tc := ⟨.hbm, 192, rfl⟩
abbrev main_c_19 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_20 : Ref sig .tc := ⟨.hbm, 199, rfl⟩
abbrev main_v143 : Ref sig .tc := ⟨.hbm, 200, rfl⟩
abbrev main_c_21 : Ref sig .tc := ⟨.hbm, 201, rfl⟩
abbrev main_v144 : Ref sig .tc := ⟨.hbm, 202, rfl⟩
abbrev main_v145 : Ref sig .tc := ⟨.hbm, 203, rfl⟩
abbrev main_c_22 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_23 : Ref sig .tc := ⟨.hbm, 209, rfl⟩
abbrev main_v150 : Ref sig .tc := ⟨.hbm, 210, rfl⟩
abbrev main_v151 : Ref sig .tc := ⟨.hbm, 211, rfl⟩
abbrev main_cst_24 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_cst_25 : Ref sig .tc := ⟨.hbm, 226, rfl⟩
abbrev main_call6_cst : Ref sig .tc := ⟨.hbm, 227, rfl⟩
abbrev main_call6_v0 : Ref sig .tc := ⟨.hbm, 228, rfl⟩
abbrev main_call6_v1 : Ref sig .tc := ⟨.hbm, 229, rfl⟩
abbrev main_call6_v2 : Ref sig .tc := ⟨.hbm, 230, rfl⟩
abbrev main_call6_v3 : Ref sig .tc := ⟨.hbm, 231, rfl⟩
abbrev main_call6_v4 : Ref sig .tc := ⟨.hbm, 232, rfl⟩
abbrev main_v165 : Ref sig .tc := ⟨.hbm, 233, rfl⟩
abbrev main_cst_26 : Ref sig .tc := ⟨.hbm, 234, rfl⟩
abbrev main_v166 : Ref sig .tc := ⟨.hbm, 235, rfl⟩
abbrev main_c_27 : Ref sig .tc := ⟨.hbm, 236, rfl⟩
abbrev main_v167 : Ref sig .tc := ⟨.hbm, 237, rfl⟩
abbrev main_v168 : Ref sig .tc := ⟨.hbm, 238, rfl⟩
abbrev main_c_28 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_c_29 : Ref sig .tc := ⟨.hbm, 245, rfl⟩
abbrev main_v174 : Ref sig .tc := ⟨.hbm, 246, rfl⟩
abbrev main_v175 : Ref sig .tc := ⟨.hbm, 247, rfl⟩
abbrev main_c_30 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_cst_31 : Ref sig .tc := ⟨.hbm, 254, rfl⟩
abbrev main_v181 : Ref sig .tc := ⟨.hbm, 255, rfl⟩
abbrev main_c_32 : Ref sig .tc := ⟨.hbm, 256, rfl⟩
abbrev main_v182 : Ref sig .tc := ⟨.hbm, 257, rfl⟩
abbrev main_v183 : Ref sig .tc := ⟨.hbm, 258, rfl⟩
abbrev main_c_33 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_cst_34 : Ref sig .tc := ⟨.hbm, 264, rfl⟩
abbrev main_v188 : Ref sig .tc := ⟨.hbm, 265, rfl⟩
abbrev main_v189 : Ref sig .tc := ⟨.hbm, 266, rfl⟩
abbrev main_cst_35 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_cst_36 : Ref sig .tc := ⟨.hbm, 282, rfl⟩
abbrev main_v204 : Ref sig .tc := ⟨.hbm, 283, rfl⟩
abbrev main_cst_37 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩

abbrev nD : Nat := 1
abbrev τ : Topo := Topo.v7x

variable {F : FTy → Type} [FloatOps F]
-- ==== Proof.KernelRun.lean ====
/-
  Every run of the kernel's program: it ends with the result read off the last region and the arguments as they were.
-/
module

public import proofs.«01_k».proof.Proof.Gen.KernelIdeal.Frame

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.KernelRun

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one
set_option backward.isDefEq.respectTransparency.types false in
/-- From any memory with zero counters every weakly fair execution ends with each buffer outside the regions' own at the
    last segment's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ c => h c)

end Cert.KernelRun
end
-- ==== Proof.Spec.lean ====
/-
  What the network computes, as plain functions on the extended reals: each stage read at its coordinates, over
  arrays given as functions of their coordinates. Both programs are shown to compute these.
-/
module

public import Idealize.ShloMosaic.PureOps.Ideal

@[expose] public section

noncomputable section

namespace Cert.Spec

open Idealize.ShloMosaic

/-- The position `r` of the image with one row (or column) of zeros before it: the image's row `r - 1`, or zero. -/
def padded (img : Fin 512 → Fin 64 → Fin 64 → EReal) (n : Fin 512) (r c : ℕ) : EReal :=
  if h : (1 ≤ r ∧ r < 65) ∧ (1 ≤ c ∧ c < 65) then img n ⟨r - 1, by omega⟩ ⟨c - 1, by omega⟩ else 0

/-- The first convolution (7×7, stride 4) with its bias and rectifier, at image `n`, channel `f`, position `(y, x)`. -/
def conv1 (img : Fin 512 → Fin 64 → Fin 64 → EReal) (w : Fin 64 → Fin 7 → Fin 7 → EReal) (b : Fin 64 → EReal)
    (n : Fin 512) (f : Fin 64) (y x : Fin 16) : EReal :=
  max ((∑ kh : Fin 7, ∑ kw : Fin 7, padded img n (4 * y.1 + kh.1) (4 * x.1 + kw.1) * w f kh kw) + b f) 0

/-- The second convolution (3×3, stride 4) with its bias and rectifier, at image `n`, channel `o` and position
    `(y, x)`: the sum over the nine taps and the 64 input channels. -/
def conv2 (h : Fin 512 → Fin 64 → Fin 16 → Fin 16 → EReal) (w : Fin 512 → Fin 64 → Fin 3 → Fin 3 → EReal)
    (b : Fin 512 → EReal) (n o : Fin 512) (y x : Fin 4) : EReal :=
  max ((∑ kh : Fin 3, ∑ kw : Fin 3, ∑ c : Fin 64,
    h n c ⟨4 * y.1 + kh.1, by omega⟩ ⟨4 * x.1 + kw.1, by omega⟩ * w o c kh kw) + b o) 0

/-- The encoding of image `n`: the second convolution averaged over its sixteen positions (`0x41800000` is 16). -/
def enc (h : Fin 512 → Fin 64 → Fin 16 → Fin 16 → EReal) (w : Fin 512 → Fin 64 → Fin 3 → Fin 3 → EReal)
    (b : Fin 512 → EReal) (n d : Fin 512) : EReal :=
  Ideal.div (∑ y : Fin 4, ∑ x : Fin 4, conv2 h w b n d y x) (Ideal.ofBits .f32 0x41800000#32)

/-- Row `i` of group `b` in the flat list of 64 groups of 8. -/
def flat (b : Fin 64) (i : Fin 8) : Fin 512 := ⟨8 * b.1 + i.1, by omega⟩

/-- The row's unit vector (`0x2B8CBCCC` is the small constant added to the norm). -/
def unit (e : Fin 512 → Fin 512 → EReal) (b : Fin 64) (i : Fin 8) (d : Fin 512) : EReal :=
  Ideal.div (e (flat b i) d)
    (Ideal.sqrt (∑ d' : Fin 512, e (flat b i) d' * e (flat b i) d') + Ideal.ofBits .f32 0x2B8CBCCC#32)

/-- The cosine of rows `i` and `j` of group `b`. -/
def sim (e : Fin 512 → Fin 512 → EReal) (b : Fin 64) (i j : Fin 8) : EReal :=
  ∑ d : Fin 512, unit e b i d * unit e b j d

/-- The rank of entry `j` of a row of eight values, the greatest first, equal values in the order of their places. -/
def rank (s : Fin 8 → EReal) (j : Fin 8) : ℕ :=
  (Finset.univ.filter fun k : Fin 8 => s j < s k ∨ (s k = s j ∧ k < j)).card

/-- The aggregation weight of `j` for `i`: a third for the three rows of the group closest to `i`, else zero. -/
def adj (e : Fin 512 → Fin 512 → EReal) (b : Fin 64) (i j : Fin 8) : EReal :=
  if rank (sim e b i) j < 3 then ((1 / 3 : ℝ) : EReal) else 0

/-- The rows averaged over the neighbours. -/
def agg (p : Fin 64 → Fin 8 → Fin 8 → EReal) (h : Fin 512 → Fin 512 → EReal) (n d : Fin 512) : EReal :=
  ∑ j : Fin 8, p ⟨n.1 / 8, by omega⟩ ⟨n.1 % 8, by omega⟩ j * h (flat ⟨n.1 / 8, by omega⟩ j) d

/-- One layer before its activation: the averaged neighbours and the rows themselves, each through its weights,
    and the bias. -/
def sage (p : Fin 64 → Fin 8 → Fin 8 → EReal) (h : Fin 512 → Fin 512 → EReal) (wl wr : Fin 512 → Fin 512 → EReal)
    (b : Fin 512 → EReal) (n o : Fin 512) : EReal :=
  (∑ d : Fin 512, agg p h n d * wl o d) + (∑ d : Fin 512, h n d * wr o d) + b o

/-- The leaky rectifier (`0x3E4CCCCD` is its slope below zero). -/
def leaky (v : EReal) : EReal := if 0 ≤ v then v else Ideal.ofBits .f32 0x3E4CCCCD#32 * v

/-- The classifier: each group's rows averaged (`0x41000000` is 8), through the last weights, and the bias. -/
def head (h : Fin 512 → Fin 512 → EReal) (w : Fin 2 → Fin 512 → EReal) (b : Fin 2 → EReal) (g : Fin 64) (o : Fin 2) : EReal :=
  (∑ d : Fin 512, Ideal.div (∑ i : Fin 8, h (flat g i) d) (Ideal.ofBits .f32 0x41000000#32) * w o d) + b o

end Cert.Spec

end
-- ==== Proof.Net.lean ====
/-
  The whole network as one function of its arguments' entries.
-/
module

public import proofs.«01_k».proof.Proof.Spec

@[expose] public section

noncomputable section

namespace Cert.Spec

/-- The arguments, each read at its coordinates: the 512 images, the two convolutions' weights and biases, the three
    layers' weights (for the neighbours, for the row itself) and biases, the classifier's weights and bias. -/
structure Args where
  img : Fin 512 → Fin 64 → Fin 64 → EReal
  w1 : Fin 64 → Fin 7 → Fin 7 → EReal
  b1 : Fin 64 → EReal
  w2 : Fin 512 → Fin 64 → Fin 3 → Fin 3 → EReal
  b2 : Fin 512 → EReal
  l1 : Fin 512 → Fin 512 → EReal
  r1 : Fin 512 → Fin 512 → EReal
  c1 : Fin 512 → EReal
  l2 : Fin 512 → Fin 512 → EReal
  r2 : Fin 512 → Fin 512 → EReal
  c2 : Fin 512 → EReal
  l3 : Fin 512 → Fin 512 → EReal
  r3 : Fin 512 → Fin 512 → EReal
  c3 : Fin 512 → EReal
  wc : Fin 2 → Fin 512 → EReal
  bc : Fin 2 → EReal

/-- The first convolution's features. -/
def features (A : Args) : Fin 512 → Fin 64 → Fin 16 → Fin 16 → EReal := conv1 A.img A.w1 A.b1

/-- The encodings of the images. -/
def encoding (A : Args) : Fin 512 → Fin 512 → EReal := enc (features A) A.w2 A.b2

/-- The neighbours' weights. -/
def weights (A : Args) : Fin 64 → Fin 8 → Fin 8 → EReal := adj (encoding A)

/-- The rows after the first layer. -/
def layer1 (A : Args) : Fin 512 → Fin 512 → EReal := fun n o => leaky (sage (weights A) (encoding A) A.l1 A.r1 A.c1 n o)

/-- The rows after the second layer. -/
def layer2 (A : Args) : Fin 512 → Fin 512 → EReal := fun n o => leaky (sage (weights A) (layer1 A) A.l2 A.r2 A.c2 n o)

/-- The rows after the third layer, which has no rectifier. -/
def layer3 (A : Args) : Fin 512 → Fin 512 → EReal := sage (weights A) (layer2 A) A.l3 A.r3 A.c3

/-- The network's result: two scores per group. -/
def net (A : Args) : Fin 64 → Fin 2 → EReal := head (layer3 A) A.wc A.bc

end Cert.Spec

end
-- ==== Proof.Host1.lean ====
/-
  What the host hands the first convolution's region: the padded images by rows, the kernel's rows spread along the
  row of a padded image, and the bias once per position.
-/
module

public import proofs.«01_k».proof.Proof.Gen.KernelIdeal.Frame
public import Idealize.ShloMosaic.Lib.Pipeline.ValueKit
public import Idealize.ShloMosaic.Lib.Pointwise
public import Idealize.ShloMosaic.Lib.StableHlo.RunRead
public import Idealize.ShloMosaic.Lib.Routing.OpsSet
public import proofs.«01_k».proof.Proof.Spec

@[expose] public section

set_option maxRecDepth 16384

noncomputable section

open Cert.KernelIdeal Cert.KernelIdeal.Gen Idealize.ShloMosaic Idealize.ShloMosaic.TcCoe Idealize.SL.Sem

namespace Cert.Host1

abbrev d0 := scatter_S7x68x16x64_S7x7x16x3_S7x7x16x64_3_012_012_3

theorem lands (idx : IVec S7x7x16x3 32) (a b : Fin 7) (x : Fin 16) (f : Fin 64) (h : Fin 7) (c : Fin 68) (y : Fin 16) (g : Fin 64) :
    d0.resultIdx? (ix4 a b x f : S7x7x16x64.Idx) idx = some (ix4 h c y g)
      ↔ (idx (ix4 a b x 0)).toInt = h.1 ∧ (idx (ix4 a b x 1)).toInt = c.1 ∧ (idx (ix4 a b x 2)).toInt = y.1 ∧ f = g := by
  rw [Routing.resultIdx?_eq_some]
  have s0 : d0.start (ix4 a b x f : S7x7x16x64.Idx) idx 0 = (idx (ix4 a b x 0)).toInt := by
    refine congrArg (fun q => (idx q).toInt) (?_ : d0.siIdx (ix4 a b x f : S7x7x16x64.Idx) ⟨0, by decide⟩ = ix4 a b x 0)
    funext q; fin_cases q <;> rfl
  have s1 : d0.start (ix4 a b x f : S7x7x16x64.Idx) idx 1 = (idx (ix4 a b x 1)).toInt := by
    refine congrArg (fun q => (idx q).toInt) (?_ : d0.siIdx (ix4 a b x f : S7x7x16x64.Idx) ⟨1, by decide⟩ = ix4 a b x 1)
    funext q; fin_cases q <;> rfl
  have s2 : d0.start (ix4 a b x f : S7x7x16x64.Idx) idx 2 = (idx (ix4 a b x 2)).toInt := by
    refine congrArg (fun q => (idx q).toInt) (?_ : d0.siIdx (ix4 a b x f : S7x7x16x64.Idx) ⟨2, by decide⟩ = ix4 a b x 2)
    funext q; fin_cases q <;> rfl
  have s3 : d0.start (ix4 a b x f : S7x7x16x64.Idx) idx 3 = 0 := rfl
  have w0 : d0.window (ix4 a b x f : S7x7x16x64.Idx) 0 = 0 := rfl
  have w1 : d0.window (ix4 a b x f : S7x7x16x64.Idx) 1 = 0 := rfl
  have w2 : d0.window (ix4 a b x f : S7x7x16x64.Idx) 2 = 0 := rfl
  have w3 : d0.window (ix4 a b x f : S7x7x16x64.Idx) 3 = f.1 := rfl
  constructor
  · intro q
    have q0 := q 0; have q1 := q 1; have q2 := q 2; have q3 := q 3
    rw [s0, w0] at q0; rw [s1, w1] at q1; rw [s2, w2] at q2; rw [s3, w3] at q3
    refine ⟨by simpa using q0, by simpa using q1, by simpa using q2, Fin.ext ?_⟩
    have : ((f.1 : Int)) = (g.1 : Int) := by simpa using q3
    omega
  · rintro ⟨q0, q1, q2, rfl⟩ q
    fin_cases q
    · show d0.start _ idx 0 + (d0.window _ 0 : Int) = (h.1 : Int)
      rw [s0, w0, q0]; simp
    · show d0.start _ idx 1 + (d0.window _ 1 : Int) = (c.1 : Int)
      rw [s1, w1, q1]; simp
    · show d0.start _ idx 2 + (d0.window _ 2 : Int) = (y.1 : Int)
      rw [s2, w2, q2]; simp
    · show d0.start _ idx 3 + (d0.window _ 3 : Int) = (f.1 : Int)
      rw [s3, w3]; simp

variable (W : Valuation τ sig (Elt Ideal))

/-- The places the updates are written to: kernel row, column `4 x + kw` of the padded row, position `x`. -/
abbrev places : IVec S7x7x16x3 32 := StableHlo.after hostOps0_2 W main_v40

theorem place0 (a b : Fin 7) (x : Fin 16) : (places W (ix4 a b x 0)).toInt = a.1 := by
  unfold places
  after_reads_simp
  simp only [Matrix.cons_val_zero, Matrix.cons_val_one, Matrix.cons_val]
  after_reads_simp
  pointwise
  revert a
  decide

theorem place1 (a b : Fin 7) (x : Fin 16) : (places W (ix4 a b x 1)).toInt = ((4 * x.1 + b.1 : ℕ) : Int) := by
  unfold places
  after_reads_simp
  simp only [Matrix.cons_val_zero, Matrix.cons_val_one, Matrix.cons_val]
  after_reads_simp
  pointwise
  revert b x
  decide

theorem place2 (a b : Fin 7) (x : Fin 16) : (places W (ix4 a b x 2)).toInt = x.1 := by
  unfold places
  after_reads_simp
  simp only [Matrix.cons_val_zero, Matrix.cons_val_one, Matrix.cons_val]
  after_reads_simp
  pointwise
  revert x
  decide

/-- The kernel's rows written at given places of an array of zeros. -/
def spread (z : IVec S7x7x16x3 32) (w : Vec Ideal S64x1x7x7 .f32) : FVec Ideal S7x68x16x64 .f32 :=
  Host.scatter scatter_S7x68x16x64_S7x7x16x3_S7x7x16x64_3_012_012_3 (fun _ b => b)
    (broadcastInDim S7x68x16x64 ![] bcast_S_S7x68x16x64 (constant S_ .f32 0x00000000#32)) z
    (broadcastInDim S7x7x16x64 ![0, 1, 2, 3] bcast_S7x7x1x64_S7x7x16x64_0_1_2_3
      (broadcastInDim S7x7x1x64 ![0, 1, 3] bcast_S7x7x64_S7x7x1x64_0_1_3
        (transpose S7x7x64 [1, 2, 0] (shapeCast S64x7x7 w shapeCasts_S64x1x7x7_S64x7x7) transposes_S64x7x7_S7x7x64_1_2_0)))

theorem spread_hit (w : Vec Ideal S64x1x7x7 .f32) (h b : Fin 7) (x : Fin 16) (f : Fin 64) (c : Fin 68) (hc : c.1 = 4 * x.1 + b.1) :
    spread (places W) w (ix4 h c x f) = w (ix4 f 0 h b) := by
  unfold spread
  refine Routing.scatter_set_hit _ _ _ _ _ _ (fun k hk => ?_) (ix4 h b x f) ((lands ..).2 ⟨place0 W .., ?_, place2 W .., rfl⟩)
  · idx_vars k
    obtain ⟨q0, q1, q2, q3⟩ := (lands ..).1 hk
    rw [place0] at q0
    rw [place1] at q1
    rw [place2] at q2
    have e0 : k0 = h := Fin.ext (by omega)
    have e2 : k2 = x := Fin.ext (by omega)
    have e1 : k1 = b := Fin.ext (by rw [e2] at q1; omega)
    rw [e0, e1, e2, q3]
    pointwise
  · rw [place1, hc]

theorem spread_miss (w : Vec Ideal S64x1x7x7 .f32) (h : Fin 7) (x : Fin 16) (f : Fin 64) (c : Fin 68)
    (hc : ¬ (4 * x.1 ≤ c.1 ∧ c.1 < 4 * x.1 + 7)) : spread (places W) w (ix4 h c x f) = (0 : EReal) := by
  unfold spread
  rw [Routing.scatter_set_miss _ _ _ _ _ fun k hk => ?_]
  · pointwise
  · idx_vars k
    obtain ⟨q0, q1, q2, q3⟩ := (lands ..).1 hk
    rw [place1] at q1
    rw [place2] at q2
    have e2 : k2 = x := Fin.ext (by omega)
    rw [e2] at q1
    have := k1.2
    omega

theorem weights_eq : (StableHlo.after hostOps0_2 W main_v43 : Vec Ideal S7x68x1024 .bf16)
    = truncf .bf16 (shapeCast S7x68x1024 (spread (places W) (W main_arg1)) shapeCasts_S7x68x16x64_S7x68x1024) bitsLt_bf16_f32 := by
  unfold places spread
  after_reads_simp
  rfl

/-- The spread weights: column `c` at position `x` and channel `f` holds the tap that reads it, if any. -/
theorem weights (h : Fin 7) (c : Fin 68) (q : Fin 1024) : (StableHlo.after hostOps0_2 W main_v43 : Vec Ideal S7x68x1024 .bf16) (ix3 h c q)
    = spread (places W) (W main_arg1) (ix4 h c (⟨q.1 / 64, by omega⟩ : Fin 16) (⟨q.1 % 64, by omega⟩ : Fin 64)) := by
  rw [weights_eq]
  pointwise

/-- The padded images, their rows by fours. -/
theorem rows (n : Fin 512) (r : Fin 17) (s : Fin 4) (c : Fin 68) : (StableHlo.after hostOps0_2 W main_v2 : Vec Ideal S512x17x4x68 .f32) (ix4 n r s c)
    = (W main_v1 : Vec Ideal S512x68x68 .f32) (ix3 n (⟨4 * r.1 + s.1, by omega⟩ : Fin 68) c) := by
  after_reads_simp
  pointwise
  simp only [Nat.mul_comm r.1 4]

/-- The bias once per position. -/
theorem bias (q : Fin 1024) : (StableHlo.after hostOps0_2 W main_v47 : Vec Ideal S1x1024 .f32) (ix2 0 q)
    = (W main_arg2 : Vec Ideal S64 .f32) (ix1 (⟨q.1 % 64, by omega⟩ : Fin 64)) := by
  after_reads_simp
  pointwise

/-- The padding: one row and one column of zeros before, three after. -/
theorem padding (hc : (W main_c : IVec S_ 32) = constantI S_ 32 0#32) (n : Fin 512) (r c : Fin 68) :
    (StableHlo.after hostOps0_1 W main_v1 : Vec Ideal S512x68x68 .f32) (ix3 n r c)
    = Spec.padded (fun n i j => (W main_v0 : Vec Ideal S512x64x64 .f32) (ix3 n i j)) n r.1 c.1 := by
  have e : (StableHlo.after hostOps0_1 W main_v1 : Vec Ideal S512x68x68 .f32)
      = pad S512x68x68 ![0, 1, 1] ![0, 3, 3] ![0, 0, 0] (W main_v0 : Vec Ideal S512x64x64 .f32) (sitofp (F := Ideal) .f32 (W main_c : IVec S_ 32))
        pads_S512x64x64_S512x68x68_000_130_130 h_S_ := by
    after_reads_simp
    rfl
  rw [e, hc]
  unfold Spec.padded
  pointwise
  by_cases h : (1 ≤ r.1 ∧ r.1 < 65) ∧ 1 ≤ c.1 ∧ c.1 < 65
  · rw [dif_pos h, dif_pos]
    intro a
    have := n.2
    match a with
    | ⟨0, _⟩ => exact ⟨Nat.zero_le _, Nat.mod_one _, show (n.1 - 0) / (0 + 1) < 512 by omega⟩
    | ⟨1, _⟩ => exact ⟨h.1.1, Nat.mod_one _, show (r.1 - 1) / (0 + 1) < 64 by omega⟩
    | ⟨2, _⟩ => exact ⟨h.2.1, Nat.mod_one _, show (c.1 - 1) / (0 + 1) < 64 by omega⟩
  · rw [dif_neg h, dif_neg]
    · show (((0#32 : BitVec 32).toInt : ℝ) : EReal) = 0
      norm_num [BitVec.toInt]
    · intro q
      have q1 : 1 ≤ r.1 ∧ (r.1 - 1) % (0 + 1) = 0 ∧ (r.1 - 1) / (0 + 1) < 64 := q 1
      have q2 : 1 ≤ c.1 ∧ (c.1 - 1) % (0 + 1) = 0 ∧ (c.1 - 1) / (0 + 1) < 64 := q 2
      omega

/-- The images in one list. -/
theorem images (n : Fin 512) (i j : Fin 64) : (StableHlo.after hostOps0 W main_v0 : Vec Ideal S512x64x64 .f32) (ix3 n i j)
    = (W main_arg0 : Vec Ideal S64x8x1x64x64 .f32) (ix5 (⟨n.1 / 8, by omega⟩ : Fin 64) (⟨n.1 % 8, by omega⟩ : Fin 8) 0 i j) := by
  after_reads_simp
  pointwise

end Cert.Host1
end
-- ==== Proof.Host2.lean ====
/-
  What the host hands the later regions: the first convolution's result cut by rows and columns of four, the weights
  transposed, the biases as rows.
-/
module

public import proofs.«01_k».proof.Proof.Gen.KernelIdeal.Frame
public import Idealize.ShloMosaic.Lib.Pipeline.ValueKit
public import Idealize.ShloMosaic.Lib.Pointwise
public import Idealize.ShloMosaic.Lib.StableHlo.RunRead

@[expose] public section

set_option maxRecDepth 16384

noncomputable section

open Cert.KernelIdeal Cert.KernelIdeal.Gen Idealize.ShloMosaic Idealize.ShloMosaic.TcCoe Idealize.SL.Sem

namespace Cert.Host2

variable (W : Valuation τ sig (Elt Ideal))

/-- The first convolution's result by image, row group and row, column group and column, channel. -/
theorem cut (n : Fin 512) (y kh x kw : Fin 4) (c : Fin 64) :
    (StableHlo.after hostOps1 W main_v49 : Vec Ideal S512x4x4x4x4x64 .bf16) (ix6 n y kh x kw c)
    = (W main_v48 : Vec Ideal S8192x1024 .bf16)
        (ix2 (⟨16 * n.1 + 4 * y.1 + kh.1, by omega⟩ : Fin 8192) (⟨256 * x.1 + 64 * kw.1 + c.1, by omega⟩ : Fin 1024)) := by
  after_reads_simp
  pointwise
  simp only [Nat.mul_comm n.1 16, Nat.mul_comm y.1 4, Nat.mul_comm x.1 256, Nat.mul_comm kw.1 64]

/-- The second convolution's taps in one axis. -/
theorem taps (kh kw : Fin 3) (c : Fin 64) (d : Fin 512) :
    (StableHlo.after hostOps1 W main_v51 : Vec Ideal S9x64x512 .f32) (ix3 (⟨3 * kh.1 + kw.1, by omega⟩ : Fin 9) c d)
    = (W main_arg3 : Vec Ideal S512x64x3x3 .f32) (ix4 d c kh kw) := by
  after_reads_simp
  pointwise

theorem bias (d : Fin 512) : (StableHlo.after hostOps1 W main_v52 : Vec Ideal S1x512 .f32) (ix2 0 d)
    = (W main_arg4 : Vec Ideal S512 .f32) (ix1 d) := by
  after_reads_simp
  pointwise

/-- The encodings by groups of eight. -/
theorem groups (b : Fin 64) (i : Fin 8) (d : Fin 512) : (StableHlo.after hostOps2 W main_v54 : Vec Ideal S64x8x512 .f32) (ix3 b i d)
    = (W main_v53 : Vec Ideal S512x512 .f32) (ix2 (⟨8 * b.1 + i.1, by omega⟩ : Fin 512) d) := by
  after_reads_simp
  pointwise
  simp only [Nat.mul_comm b.1 8]

theorem left1 (d o : Fin 512) : (StableHlo.after hostOps3 W main_v56 : Vec Ideal S512x512 .f32) (ix2 d o)
    = (W main_arg5 : Vec Ideal S512x512 .f32) (ix2 o d) := by
  after_reads_simp
  pointwise

theorem right1 (d o : Fin 512) : (StableHlo.after hostOps3 W main_v57 : Vec Ideal S512x512 .f32) (ix2 d o)
    = (W main_arg6 : Vec Ideal S512x512 .f32) (ix2 o d) := by
  after_reads_simp
  pointwise

theorem bias1 (o : Fin 512) : (StableHlo.after hostOps3 W main_v58 : Vec Ideal S1x512 .f32) (ix2 0 o)
    = (W main_arg7 : Vec Ideal S512 .f32) (ix1 o) := by
  after_reads_simp
  pointwise

theorem left2 (d o : Fin 512) : (StableHlo.after hostOps4 W main_v60 : Vec Ideal S512x512 .f32) (ix2 d o)
    = (W main_arg8 : Vec Ideal S512x512 .f32) (ix2 o d) := by
  after_reads_simp
  pointwise

theorem right2 (d o : Fin 512) : (StableHlo.after hostOps4 W main_v61 : Vec Ideal S512x512 .f32) (ix2 d o)
    = (W main_arg9 : Vec Ideal S512x512 .f32) (ix2 o d) := by
  after_reads_simp
  pointwise

theorem bias2 (o : Fin 512) : (StableHlo.after hostOps4 W main_v62 : Vec Ideal S1x512 .f32) (ix2 0 o)
    = (W main_arg10 : Vec Ideal S512 .f32) (ix1 o) := by
  after_reads_simp
  pointwise

theorem left3 (d o : Fin 512) : (StableHlo.after hostOps5 W main_v64 : Vec Ideal S512x512 .f32) (ix2 d o)
    = (W main_arg11 : Vec Ideal S512x512 .f32) (ix2 o d) := by
  after_reads_simp
  pointwise

theorem right3 (d o : Fin 512) : (StableHlo.after hostOps5 W main_v65 : Vec Ideal S512x512 .f32) (ix2 d o)
    = (W main_arg12 : Vec Ideal S512x512 .f32) (ix2 o d) := by
  after_reads_simp
  pointwise

theorem bias3 (o : Fin 512) : (StableHlo.after hostOps5 W main_v66 : Vec Ideal S1x512 .f32) (ix2 0 o)
    = (W main_arg13 : Vec Ideal S512 .f32) (ix1 o) := by
  after_reads_simp
  pointwise

theorem last (d : Fin 512) (o : Fin 2) : (StableHlo.after hostOps5 W main_v67 : Vec Ideal S512x2 .f32) (ix2 d o)
    = (W main_arg14 : Vec Ideal S2x512 .f32) (ix2 o d) := by
  after_reads_simp
  pointwise

theorem biasLast (o : Fin 2) : (StableHlo.after hostOps5 W main_v68 : Vec Ideal S1x2 .f32) (ix2 0 o)
    = (W main_arg15 : Vec Ideal S2 .f32) (ix1 o) := by
  after_reads_simp
  pointwise

end Cert.Host2
end
-- ==== Proof.Conv1.lean ====
/-
  The first convolution's region: what one grid point computes, and what its array holds afterwards.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Cert.KernelIdeal Cert.KernelIdeal.Gen Idealize.ShloMosaic Idealize.ShloMosaic.TcCoe Idealize.SL.Sem
open Idealize.ShloMosaic.Pipeline (Dat)

namespace Cert.Conv1

/-- Row `y` of the result of image `n`, at column `q`: seven row products over the 68 padded columns, the bias, the
    rectifier. The padded image's row `4 * y + kh` is stored at `(y + kh / 4, kh % 4)`. -/
def rows {N : ℕ} (u : Vec Ideal ⟨4, ![N, 17, 4, 68]⟩ .f32) (w : Vec Ideal S7x68x1024 .bf16) (b : Vec Ideal S1x1024 .f32)
    (n : Fin N) (y : Fin 16) (q : Fin 1024) : EReal :=
  max ((∑ kh : Fin 7, ∑ k : Fin 68,
    u (ix4 n (⟨y.1 + kh.1 / 4, by omega⟩ : Fin 17) (⟨kh.1 % 4, by omega⟩ : Fin 4) k) * w (ix3 kh k q)) + b (ix2 0 q)) 0

/-- What the body computes from a block of sixteen images. -/
theorem block (x0 : Vec Ideal S16x17x4x68 .f32) (x1 : Vec Ideal S7x68x1024 .bf16) (x2 : Vec Ideal S1x1024 .f32)
    (r : Fin 256) (q : Fin 1024) :
    k0_pay1 (k0_pay2 x0) (k0_pay3 x0 (View.ld x1 r0_1) (View.ld x1 r0_2) (View.ld x1 r0_3) (View.ld x1 r0_4)) (k0_pay4 x0) (View.ld x1 r0_5) (View.ld x1 r0_6) (View.ld x1 r0_7) x2 (ix2 r q)
      = rows x0 x1 x2 ⟨r.1 / 16, by omega⟩ ⟨r.1 % 16, by omega⟩ q := by
  unfold_payloads
  pointwise
  simp only [rows, Fin.sum_univ_seven, Nat.add_comm 1]
  rfl

variable (V : (c : Dev nD) → (b : Ref sig .tc) → Buf (Elt Ideal) ((c : Thread nD τ).loc b))

/-- Image `n` of grid point `t`'s block, among all the images. -/
def img (t : Fin cfg0.N) (n : Fin 16) : Fin 512 := ⟨16 * t.1 + n.1, by have h : t.1 < 32 := t.2; omega⟩

/-- Result row `r` of grid point `t`'s block, among all the rows. -/
def row (t : Fin cfg0.N) (r : Fin 256) : Fin 8192 := ⟨256 * t.1 + r.1, by have h : t.1 < 32 := t.2; omega⟩

/-- The blocks' places on the grid: images and results move with the point, weights and bias stay. -/
theorem place0 : ∀ t : Fin cfg0.N, win0_0.index t = ![t.1, 0, 0, 0] := by decide +kernel
theorem place1 : ∀ t : Fin cfg0.N, win0_1.index t = ![0, 0, 0] := by decide +kernel
theorem place2 : ∀ t : Fin cfg0.N, win0_2.index t = ![0, 0] := by decide +kernel
theorem place3 : ∀ t : Fin cfg0.N, win0_3.index t = ![t.1, 0] := by decide +kernel

theorem read_images (c : Dev nD) (t : Fin cfg0.N) (n : Fin 16) (y : Fin 17) (kh : Fin 4) (k : Fin 68) :
    iblk0 V c 0 t (ix4 n y kh k) = (V c main_v2 : Vec Ideal S512x17x4x68 .f32) (ix4 (img t n) y kh k) := by
  blk_ext [iblk0, img, place0 t]

theorem read_weights (c : Dev nD) (t : Fin cfg0.N) (a : Fin 7) (k : Fin 68) (d : Fin 1024) :
    iblk0 V c 1 t (ix3 a k d) = (V c main_v43 : Vec Ideal S7x68x1024 .bf16) (ix3 a k d) := by
  blk_ext [iblk0, place1 t]

theorem read_bias (c : Dev nD) (t : Fin cfg0.N) (d : Fin 1024) :
    iblk0 V c 2 t (ix2 0 d) = (V c main_v47 : Vec Ideal S1x1024 .f32) (ix2 0 d) := by
  blk_ext [iblk0, place2 t]

theorem place (t : Fin cfg0.N) (r : Fin 256) (d : Fin 1024) :
    ((cfg0.win 3).blk t).view.emb (ix2 r d) = ix2 (row t r) d := by
  blk_ext [row, place3 t]

/-- Row `r` of the result: image `r / 16`, row `r % 16`. -/
def result (u : Vec Ideal S512x17x4x68 .f32) (w : Vec Ideal S7x68x1024 .bf16) (b : Vec Ideal S1x1024 .f32)
    (r : Fin 8192) (q : Fin 1024) : EReal :=
  rows (N := 512) u w b ⟨r.1 / 16, by omega⟩ ⟨r.1 % 16, by omega⟩ q

/-- What the region leaves in its array. -/
theorem array (c : Dev nD) : (dat0 V c).arrAt 3 cfg0.N
    = fun j : S8192x1024.Idx => result (V c main_v2) (V c main_v43) (V c main_v47) (j 0) (j 1) := by
  refine (dat0 V c).arrAt_eq_of_covers 3 _ (by decide +kernel) fun t hf y => ?_
  blk_simp
  rw [after0_3]
  frame_out
  idx_vars y
  refine (block _ _ _ _ _).trans ?_
  refine Eq.trans ?_ (congrArg (fun j : S8192x1024.Idx =>
    result (V c main_v2) (V c main_v43) (V c main_v47) (j 0) (j 1)) (place t y0 y1).symm)
  show _ = result (V c main_v2) (V c main_v43) (V c main_v47) (row t y0) y1
  have h1 : (⟨(row t y0).1 / 16, by omega⟩ : Fin 512) = img t ⟨y0.1 / 16, by omega⟩ := Fin.ext (by simp only [row, img]; omega)
  have h2 : (⟨(row t y0).1 % 16, by omega⟩ : Fin 16) = ⟨y0.1 % 16, by omega⟩ := Fin.ext (by simp only [row]; omega)
  simp only [result, h1, h2]
  simp only [rows, read_images, read_weights, read_bias]

end Cert.Conv1
end
-- ==== Proof.Sums.lean ====
/-
  Sums over a product of two ranges, split.
-/
module

public import Mathlib.Data.EReal.Operations
public import Mathlib.Algebra.BigOperators.Fin

@[expose] public section

namespace Cert.Sums

/-- A sum over `m * n` places is the sum over `m` rows of the sums over `n` places. -/
theorem sum_mul {M : Type*} [AddCommMonoid M] (m n : ℕ) (g : Fin (m * n) → M) :
    ∑ k, g k = ∑ a : Fin m, ∑ b : Fin n, g ⟨b.1 + n * a.1, by
      have := Nat.mul_le_mul_left n (Nat.succ_le_of_lt a.2); have := b.2; rw [Nat.mul_succ] at *; rw [Nat.mul_comm m n]; omega⟩ := by
  rw [← finProdFinEquiv.sum_comp, Fintype.sum_prod_type]
  rfl

end Cert.Sums
-- ==== Proof.Conv2.lean ====
/-
  The second convolution's region: what one grid point computes, and what its array holds afterwards.
-/
module

public import proofs.«01_k».proof.Proof.Gen.KernelIdeal.Frame
public import Idealize.ShloMosaic.Lib.Pipeline.ValueKit
public import Idealize.ShloMosaic.Lib.Pointwise
public import proofs.«01_k».proof.Proof.Sums

@[expose] public section

set_option maxRecDepth 16384

noncomputable section

open Cert.KernelIdeal Cert.KernelIdeal.Gen Idealize.ShloMosaic Idealize.ShloMosaic.TcCoe Idealize.SL.Sem
open Idealize.ShloMosaic.Pipeline (Dat)

namespace Cert.Conv2

/-- One image of a convolved block at channel `d`: over the sixteen positions `(y, x)`, the nine taps' products
    over the 64 channels, the bias, the rectifier, and the average. -/
def pooled {N : ℕ} (u : Vec Ideal ⟨6, ![N, 4, 4, 4, 4, 64]⟩ .bf16) (w : Vec Ideal S9x64x512 .f32) (b : Vec Ideal S1x512 .f32)
    (n : Fin N) (d : Fin 512) : EReal :=
  Ideal.div (∑ y : Fin 4, ∑ x : Fin 4,
      max ((∑ kh : Fin 3, ∑ kw : Fin 3, ∑ c : Fin 64,
        u (ix6 n y (kh.castLE (by omega)) x (kw.castLE (by omega)) c) * w (ix3 (⟨3 * kh.1 + kw.1, by omega⟩ : Fin 9) c d)) + b (ix2 0 d)) 0)
    (Ideal.ofBits .f32 0x41800000#32)

/-- What the body computes from a block of sixteen images. -/
theorem block (x0 : Vec Ideal S16x4x4x4x4x64 .bf16) (x1 : Vec Ideal S9x64x512 .f32) (x2 : Vec Ideal S1x512 .f32)
    (n : Fin 16) (d : Fin 512) :
    k1_pay1 (k1_pay5 (k1_pay2 x0) (k1_pay3 x0 (View.ld x1 r1_1) (View.ld x1 r1_2) (View.ld x1 r1_3) (View.ld x1 r1_4)) (k1_pay4 x0) (View.ld x1 r1_5) (View.ld x1 r1_6) (View.ld x1 r1_7) (View.ld x1 r1_8) (View.ld x1 r1_9)) x2 (ix2 n d)
      = pooled x0 x1 x2 n d := by
  unfold_payloads
  pointwise
  unfold pooled
  congr 1
  refine (Sums.sum_mul 4 4 _).trans ?_
  refine Finset.sum_congr rfl fun y _ => Finset.sum_congr rfl fun x _ => ?_
  have hy : (⟨(n.1 * 16 + (x.1 + 4 * y.1)) / 4 % 4, by omega⟩ : Fin 4) = y := Fin.ext (by simp only []; omega)
  have hx : (⟨(n.1 * 16 + (x.1 + 4 * y.1)) % 4, by omega⟩ : Fin 4) = x := Fin.ext (by simp only []; omega)
  simp only [hy, hx]
  simp only [Fin.sum_univ_three, ← add_assoc]
  rfl

variable (V : (c : Dev nD) → (b : Ref sig .tc) → Buf (Elt Ideal) ((c : Thread nD τ).loc b))

/-- Image `n` of grid point `t`'s block, among all the images. -/
def img (t : Fin cfg1.N) (n : Fin 16) : Fin 512 := ⟨16 * t.1 + n.1, by have h : t.1 < 32 := t.2; omega⟩

/-- The blocks' places on the grid: images and results move with the point, weights and bias stay. -/
theorem place0 : ∀ t : Fin cfg1.N, win1_0.index t = ![t.1, 0, 0, 0, 0, 0] := by decide +kernel
theorem place1 : ∀ t : Fin cfg1.N, win1_1.index t = ![0, 0, 0] := by decide +kernel
theorem place2 : ∀ t : Fin cfg1.N, win1_2.index t = ![0, 0] := by decide +kernel
theorem place3 : ∀ t : Fin cfg1.N, win1_3.index t = ![t.1, 0] := by decide +kernel

theorem read_images (c : Dev nD) (t : Fin cfg1.N) (n : Fin 16) (y kh x kw : Fin 4) (k : Fin 64) :
    iblk1 V c 0 t (ix6 n y kh x kw k) = (V c main_v49 : Vec Ideal S512x4x4x4x4x64 .bf16) (ix6 (img t n) y kh x kw k) := by
  blk_ext [iblk1, img, place0 t]

theorem read_weights (c : Dev nD) (t : Fin cfg1.N) (a : Fin 9) (k : Fin 64) (d : Fin 512) :
    iblk1 V c 1 t (ix3 a k d) = (V c main_v51 : Vec Ideal S9x64x512 .f32) (ix3 a k d) := by
  blk_ext [iblk1, place1 t]

theorem read_bias (c : Dev nD) (t : Fin cfg1.N) (d : Fin 512) :
    iblk1 V c 2 t (ix2 0 d) = (V c main_v52 : Vec Ideal S1x512 .f32) (ix2 0 d) := by
  blk_ext [iblk1, place2 t]

theorem place (t : Fin cfg1.N) (n : Fin 16) (d : Fin 512) :
    ((cfg1.win 3).blk t).view.emb (ix2 n d) = ix2 (img t n) d := by
  blk_ext [img, place3 t]

/-- What the region leaves in its array. -/
theorem array (c : Dev nD) : (dat1 V c).arrAt 3 cfg1.N
    = fun j : S512x512.Idx => pooled (N := 512) (V c main_v49) (V c main_v51) (V c main_v52) (j 0) (j 1) := by
  refine (dat1 V c).arrAt_eq_of_covers 3 _ (by decide +kernel) fun t hf y => ?_
  blk_simp
  rw [after1_3]
  frame_out
  idx_vars y
  refine (block _ _ _ _ _).trans ?_
  refine Eq.trans ?_ (congrArg (fun j : S512x512.Idx =>
    pooled (N := 512) (V c main_v49) (V c main_v51) (V c main_v52) (j 0) (j 1)) (place t y0 y1).symm)
  show _ = pooled (N := 512) (V c main_v49) (V c main_v51) (V c main_v52) (img t y0) y1
  simp only [pooled, read_images, read_weights, read_bias]

end Cert.Conv2
end
-- ==== Proof.Adj.lean ====
/-
  The neighbour weights' region: the rows' unit vectors, their cosines, the ranks, and what the region leaves.
-/
module

public import proofs.«01_k».proof.Proof.Gen.KernelIdeal.Frame
public import Idealize.ShloMosaic.Lib.Pipeline.ValueKit
public import Idealize.ShloMosaic.Lib.Pointwise
public import proofs.«01_k».proof.Proof.Spec

@[expose] public section

set_option maxRecDepth 16384

noncomputable section

open Cert.KernelIdeal Cert.KernelIdeal.Gen Idealize.ShloMosaic Idealize.ShloMosaic.TcCoe Idealize.SL.Sem
open Idealize.ShloMosaic.Pipeline (Dat)

namespace Cert.Adj

/-- The places 0 … 7 along a row. -/
def places : IVec S64x8 32 := iota .tc S64x8 32 [1] iota_S64x8_d1_w32

/-- The inner products of one row of every group with another. -/
def dot (u v : FVec Ideal S64x1x512 .f32) : FVec Ideal S64x1 .f32 :=
  multiReduction .add [2] S64x1 (mulf u v) 0x00000000#32 reduces_S64x1x512_S64x1 (.inl rfl) rfl

/-- The inner products of one row of every group with all eight. -/
def dots (u u0 u1 u2 u3 u4 u5 u6 u7 : FVec Ideal S64x1x512 .f32) : FVec Ideal S64x8 .f32 :=
  concatenate S64x8 1 [⟨S64x1, dot u u0⟩, ⟨S64x1, dot u u1⟩, ⟨S64x1, dot u u2⟩, ⟨S64x1, dot u u3⟩, ⟨S64x1, dot u u4⟩,
    ⟨S64x1, dot u u5⟩, ⟨S64x1, dot u u6⟩, ⟨S64x1, dot u u7⟩] concatenates_S64x1_S64x1_S64x1_S64x1_S64x1_S64x1_S64x1_S64x1_S64x8_d1

/-- One step of the count: entry `k`'s column against all, greater or equal and earlier. -/
def step (s : FVec Ideal S64x8 .f32) (k : BitVec 32) (col : FVec Ideal S64x1 .f32) (acc : FVec Ideal S64x8 .f32) : FVec Ideal S64x8 .f32 :=
  addf (addf acc (sitofp .f32 (extui 32 (cmpf .ogt (broadcastTo S64x8 col broadcasts_S64x1_S64x8) s) natLt_1_32)))
    (sitofp .f32 (extui 32 (andi (cmpf .oeq (broadcastTo S64x8 col broadcasts_S64x1_S64x8) s)
      (cmpi .sgt places (broadcast S64x8 k))) natLt_1_32))

/-- How many entries stand before each. -/
def count (s : FVec Ideal S64x8 .f32) : FVec Ideal S64x8 .f32 :=
  step s 7#32 (extractStridedSlice S64x1 ![0, 7] s slices_S64x8_o0_7_S64x1)
  (step s 6#32 (extractStridedSlice S64x1 ![0, 6] s slices_S64x8_o0_6_S64x1)
  (step s 5#32 (extractStridedSlice S64x1 ![0, 5] s slices_S64x8_o0_5_S64x1)
  (step s 4#32 (extractStridedSlice S64x1 ![0, 4] s slices_S64x8_o0_4_S64x1)
  (step s 3#32 (extractStridedSlice S64x1 ![0, 3] s slices_S64x8_o0_3_S64x1)
  (step s 2#32 (extractStridedSlice S64x1 ![0, 2] s slices_S64x8_o0_2_S64x1)
  (step s 1#32 (extractStridedSlice S64x1 ![0, 1] s slices_S64x8_o0_1_S64x1)
  (step s 0#32 (extractStridedSlice S64x1 ![0, 0] s slices_S64x8_o0_0_S64x1)
    (broadcast S64x8 (Scalar.ofBits .f32 0x00000000#32)))))))))

/-- The weights a count leads to. -/
def pick (n : FVec Ideal S64x8 .f32) : FVec Ideal S64x1x8 .f32 :=
  shapeCast S64x1x8 (select (cmpf .olt n (broadcast S64x8 (Scalar.ofBits .f32 0x40400000#32)))
    (broadcast S64x8 (Named.named κ "third" 0x3EAAAAAB#32)) (broadcast S64x8 (Scalar.ofBits .f32 0x00000000#32))) shapeCasts_S64x8_S64x1x8

variable (u0 u1 u2 u3 u4 u5 u6 u7 : FVec Ideal S64x1x512 .f32) (v : Vec Ideal S64x1x512 .f32)

theorem row0 : k2_pay17 places (k2_pay12 u0 u1 u2 u3 u4 u5 u6 v) (k2_pay15 places (k2_pay12 u0 u1 u2 u3 u4 u5 u6 v) (k2_pay13 places u0 u1 u2 u3 u4 u5 u6 v) (k2_pay14 u0 u1 u2 u3 u4 u5 u6 v)) (k2_pay16 (k2_pay12 u0 u1 u2 u3 u4 u5 u6 v))
    = pick (count (dots u0 u0 u1 u2 u3 u4 u5 u6 (k2_pay11 v))) := by rfl

theorem row1 : k2_pay26 places (k2_pay19 u1 u2 u3 u4 u5 u6 u7 (k2_pay18 u0 u1)) (k2_pay23 places (k2_pay19 u1 u2 u3 u4 u5 u6 u7 (k2_pay18 u0 u1)) (k2_pay20 places u1 u2 u3 u4 u5 u6 u7 (k2_pay18 u0 u1)) (k2_pay21 u1 u2 u3 u4 u5 u6 u7 (k2_pay18 u0 u1)) (k2_pay22 u1 u2 u3 u4 u5 u6 u7 (k2_pay18 u0 u1))) (k2_pay24 (k2_pay19 u1 u2 u3 u4 u5 u6 u7 (k2_pay18 u0 u1))) (k2_pay25 (k2_pay19 u1 u2 u3 u4 u5 u6 u7 (k2_pay18 u0 u1)))
    = pick (count (dots u1 u0 u1 u2 u3 u4 u5 u6 u7)) := by rfl

theorem row2 : k2_pay45 places (k2_pay40 places (k2_pay34 u2 u7 (k2_pay27 u0 u2) (k2_pay28 u1 u2) (k2_pay29 u2) (k2_pay30 u2 u3) (k2_pay31 u2 u4) (k2_pay32 u2 u5) (k2_pay33 u2 u6)) (k2_pay35 places u2 u7 (k2_pay27 u0 u2) (k2_pay28 u1 u2) (k2_pay29 u2) (k2_pay30 u2 u3) (k2_pay31 u2 u4) (k2_pay32 u2 u5) (k2_pay33 u2 u6)) (k2_pay37 u2 u7 (k2_pay27 u0 u2) (k2_pay28 u1 u2) (k2_pay29 u2) (k2_pay30 u2 u3) (k2_pay31 u2 u4) (k2_pay32 u2 u5) (k2_pay33 u2 u6)) (k2_pay38 u2 u7 (k2_pay27 u0 u2) (k2_pay28 u1 u2) (k2_pay29 u2) (k2_pay30 u2 u3) (k2_pay31 u2 u4) (k2_pay32 u2 u5) (k2_pay33 u2 u6)) k2_pay39) (k2_pay42 (k2_pay34 u2 u7 (k2_pay27 u0 u2) (k2_pay28 u1 u2) (k2_pay29 u2) (k2_pay30 u2 u3) (k2_pay31 u2 u4) (k2_pay32 u2 u5) (k2_pay33 u2 u6))) (k2_pay43 (k2_pay34 u2 u7 (k2_pay27 u0 u2) (k2_pay28 u1 u2) (k2_pay29 u2) (k2_pay30 u2 u3) (k2_pay31 u2 u4) (k2_pay32 u2 u5) (k2_pay33 u2 u6))) k2_pay44
    = pick (count (dots u2 u0 u1 u2 u3 u4 u5 u6 u7)) := by rfl

theorem row3 : k2_pay55 places (k2_pay46 u0 u1 u2 u3 u4 u5 u6 u7) (k2_pay51 places (k2_pay46 u0 u1 u2 u3 u4 u5 u6 u7) (k2_pay47 (F := Ideal)) (k2_pay49 u0 u1 u2 u3 u4 u5 u6 u7) (k2_pay50 places u0 u1 u2 u3 u4 u5 u6 u7)) (k2_pay53 (k2_pay46 u0 u1 u2 u3 u4 u5 u6 u7)) (k2_pay54 places (k2_pay46 u0 u1 u2 u3 u4 u5 u6 u7))
    = pick (count (dots u3 u0 u1 u2 u3 u4 u5 u6 u7)) := by rfl

theorem row4 : k2_pay63 places (k2_pay56 u0 u1 u2 u3 u4 u5 u6 u7) (k2_pay60 places (k2_pay56 u0 u1 u2 u3 u4 u5 u6 u7) (k2_pay57 places u0 u1 u2 u3 u4 u5 u6 u7) (k2_pay58 u0 u1 u2 u3 u4 u5 u6 u7) (k2_pay59 u0 u1 u2 u3 u4 u5 u6 u7)) (k2_pay61 (k2_pay56 u0 u1 u2 u3 u4 u5 u6 u7)) (k2_pay62 (k2_pay56 u0 u1 u2 u3 u4 u5 u6 u7))
    = pick (count (dots u4 u0 u1 u2 u3 u4 u5 u6 u7)) := by rfl

theorem row5 : k2_pay79 places (k2_pay70 u5 u6 u7 (k2_pay64 u0 u5) (k2_pay65 u1 u5) (k2_pay66 u2 u5) (k2_pay67 u3 u5) (k2_pay68 u4 u5) (k2_pay69 u5)) (k2_pay75 places (k2_pay70 u5 u6 u7 (k2_pay64 u0 u5) (k2_pay65 u1 u5) (k2_pay66 u2 u5) (k2_pay67 u3 u5) (k2_pay68 u4 u5) (k2_pay69 u5)) (k2_pay71 places u5 u6 u7 (k2_pay64 u0 u5) (k2_pay65 u1 u5) (k2_pay66 u2 u5) (k2_pay67 u3 u5) (k2_pay68 u4 u5) (k2_pay69 u5)) (k2_pay73 u5 u6 u7 (k2_pay64 u0 u5) (k2_pay65 u1 u5) (k2_pay66 u2 u5) (k2_pay67 u3 u5) (k2_pay68 u4 u5) (k2_pay69 u5)) (k2_pay74 u5 u6 u7 (k2_pay64 u0 u5) (k2_pay65 u1 u5) (k2_pay66 u2 u5) (k2_pay67 u3 u5) (k2_pay68 u4 u5) (k2_pay69 u5))) (k2_pay77 (k2_pay70 u5 u6 u7 (k2_pay64 u0 u5) (k2_pay65 u1 u5) (k2_pay66 u2 u5) (k2_pay67 u3 u5) (k2_pay68 u4 u5) (k2_pay69 u5))) (k2_pay78 (k2_pay70 u5 u6 u7 (k2_pay64 u0 u5) (k2_pay65 u1 u5) (k2_pay66 u2 u5) (k2_pay67 u3 u5) (k2_pay68 u4 u5) (k2_pay69 u5)))
    = pick (count (dots u5 u0 u1 u2 u3 u4 u5 u6 u7)) := by rfl

theorem row6 : k2_pay91 places (k2_pay80 u0 u1 u2 u3 u4 u5 u6 u7) (k2_pay86 places (k2_pay80 u0 u1 u2 u3 u4 u5 u6 u7) (k2_pay81 (F := Ideal)) (k2_pay83 u0 u1 u2 u3 u4 u5 u6 u7) (k2_pay84 u0 u1 u2 u3 u4 u5 u6 u7) (k2_pay85 places)) (k2_pay88 (k2_pay80 u0 u1 u2 u3 u4 u5 u6 u7)) (k2_pay89 (k2_pay80 u0 u1 u2 u3 u4 u5 u6 u7)) (k2_pay90 places)
    = pick (count (dots u6 u0 u1 u2 u3 u4 u5 u6 u7)) := by rfl

theorem row7 : k2_pay1 (k2_pay99 places (k2_pay92 u0 u1 u2 u3 u4 u5 u6 u7) (k2_pay97 places (k2_pay92 u0 u1 u2 u3 u4 u5 u6 u7)) (k2_pay98 places (k2_pay92 u0 u1 u2 u3 u4 u5 u6 u7) (k2_pay94 places u0 u1 u2 u3 u4 u5 u6 u7) (k2_pay95 places u0 u1 u2 u3 u4 u5 u6 u7))) (Scalar.ofBits .f32 0x00000000#32) (k2_pay100 (F := Ideal))
    = pick (count (dots u7 u0 u1 u2 u3 u4 u5 u6 u7)) := by rfl

/-! ### Read at one entry -/

/-- A comparison turned into a number. -/
theorem bit (p : Prop) [Decidable p] : FloatOps.sitofp (F := Ideal) FTy.f32 (BitVec.setWidth 32 (BitVec.ofBool (decide p)))
    = if p then 1 else 0 := by
  by_cases h : p
  · simp only [h, decide_true, if_true]
    show (((1#32 : BitVec 32).toInt : ℝ) : EReal) = 1
    norm_num [BitVec.toInt]
  · simp only [h, decide_false, if_false]
    show (((0#32 : BitVec 32).toInt : ℝ) : EReal) = 0
    norm_num [BitVec.toInt]

theorem later (k j : Fin 8) : IntOp.cmpi CmpIPredicate.sgt (BitVec.ofNat 32 j.1) (BitVec.ofNat 32 k.1) = BitVec.ofBool (decide (k < j)) := by
  revert k j
  decide

theorem step_apply (s : FVec Ideal S64x8 .f32) (k : Fin 8) (col : FVec Ideal S64x1 .f32) (acc : FVec Ideal S64x8 .f32)
    (b : Fin 64) (j : Fin 8) (w : BitVec 32) (hw : w = BitVec.ofNat 32 k.1) (hc : col (ix2 b 0) = s (ix2 b k)) : step s w col acc (ix2 b j)
      = acc (ix2 b j) + if s (ix2 b j) < s (ix2 b k) ∨ (s (ix2 b k) = s (ix2 b j) ∧ k < j) then 1 else 0 := by
  subst hw
  have e : step s (BitVec.ofNat 32 k.1) col acc (ix2 b j) = acc (ix2 b j) + (if s (ix2 b j) < s (ix2 b k) then 1 else 0)
      + (if s (ix2 b k) = s (ix2 b j) ∧ k < j then 1 else 0) := by
    unfold step places
    pointwise
    rw [later, hc, bit, ← bit (s (ix2 b k) = s (ix2 b j) ∧ k < j)]
    congr 3
    simp only [IntOp.andi]
    by_cases h1 : s (ix2 b k) = s (ix2 b j) <;> by_cases h2 : k < j <;> simp [h1, h2] <;> rfl
  rw [e, add_assoc]
  congr 1
  by_cases h1 : s (ix2 b j) < s (ix2 b k)
  · have h2 : ¬ (s (ix2 b k) = s (ix2 b j) ∧ k < j) := fun h => (ne_of_lt h1) h.1.symm
    simp only [h1, h2, if_true, if_false, true_or, add_zero]
  · simp only [h1, if_false, false_or, zero_add]

/-- The count is the rank. -/
theorem count_apply (s : FVec Ideal S64x8 .f32) (b : Fin 64) (j : Fin 8) :
    count s (ix2 b j) = ((Spec.rank (fun k => s (ix2 b k)) j : ℕ) : EReal) := by
  unfold count
  rw [step_apply s 7 _ _ b j 7#32 rfl (by pointwise), step_apply s 6 _ _ b j 6#32 rfl (by pointwise), step_apply s 5 _ _ b j 5#32 rfl (by pointwise),
    step_apply s 4 _ _ b j 4#32 rfl (by pointwise), step_apply s 3 _ _ b j 3#32 rfl (by pointwise), step_apply s 2 _ _ b j 2#32 rfl (by pointwise),
    step_apply s 1 _ _ b j 1#32 rfl (by pointwise), step_apply s 0 _ _ b j 0#32 rfl (by pointwise)]
  unfold Spec.rank
  rw [Finset.card_filter]
  push_cast
  rw [Fin.sum_univ_eight]
  pointwise

/-- The inner products of a row of every group with all eight, one entry. -/
theorem dots_apply (u : FVec Ideal S64x1x512 .f32) (b : Fin 64) (j : Fin 8) :
    dots u u0 u1 u2 u3 u4 u5 u6 u7 (ix2 b j) = ∑ d : Fin 512, u (ix3 b 0 d) * ![u0, u1, u2, u3, u4, u5, u6, u7] j (ix3 b 0 d) := by
  unfold dots dot
  fin_cases j <;> pointwise <;> rfl

theorem three : Ideal.ofBits FTy.f32 0x40400000#32 = ((3 : ℕ) : EReal) := by
  rw [show ((3 : ℕ) : EReal) = ((3 : ℝ) : EReal) by norm_cast]
  simp [Ideal.ofBits, Ideal.ieee, -EReal.coe_mul]; norm_num

theorem pick_apply (n : FVec Ideal S64x8 .f32) (b : Fin 64) (j : Fin 8) (r : ℕ) (h : n (ix2 b j) = ((r : ℕ) : EReal)) :
    pick n (ix3 b 0 j) = if r < 3 then ((1 / 3 : ℝ) : EReal) else 0 := by
  have e : Named.named (F := Ideal) κ "third" (φ := .f32) 0x3EAAAAAB#32 = ((1 / 3 : ℝ) : EReal) := by rfl
  unfold pick
  pointwise
  rw [h, three, e]
  simp only [Nat.cast_lt]

/-- The block's rows in one list, group by group. -/
def listed (x : Vec Ideal S64x8x512 .f32) (n d : Fin 512) : EReal := x (ix3 ⟨n.1 / 8, by omega⟩ ⟨n.1 % 8, by omega⟩ d)

theorem listed_flat (x : Vec Ideal S64x8x512 .f32) (b : Fin 64) (i : Fin 8) (d : Fin 512) :
    listed x (Spec.flat b i) d = x (ix3 b i d) := by
  have h1 : (⟨(8 * b.1 + i.1) / 8, by omega⟩ : Fin 64) = b := Fin.ext (by simp only []; omega)
  have h2 : (⟨(8 * b.1 + i.1) % 8, by omega⟩ : Fin 8) = i := Fin.ext (by simp only []; omega)
  simp only [listed, Spec.flat, h1, h2]

/-- One row of every group divided by its norm. -/
theorem norm_apply (x : Vec Ideal S64x1x512 .f32) (b : Fin 64) (d : Fin 512) : k2_pay2 x (ix3 b 0 d) =
    Ideal.div (x (ix3 b 0 d)) (Ideal.sqrt (∑ d' : Fin 512, x (ix3 b 0 d') * x (ix3 b 0 d')) + Ideal.ofBits .f32 0x2B8CBCCC#32) := by
  unfold_payloads
  pointwise

theorem inb (i : Fin 8) : ∀ a, (![0, i.1, 0] : Fin 3 → ℕ) a + S64x1x512.size a ≤ S64x8x512.size a := by
  intro a
  have := i.2
  fin_cases a <;> simp [S64x1x512, S64x8x512] <;> omega

/-- The unit vectors of row `i` of every group. -/
def units (x : Vec Ideal S64x8x512 .f32) (i : Fin 8) : FVec Ideal S64x1x512 .f32 :=
  k2_pay2 (View.ld x (Rect.unit (s := S64x8x512) ![0, i.1, 0] S64x1x512.size (inb i)))

theorem units_apply (x : Vec Ideal S64x8x512 .f32) (b : Fin 64) (i : Fin 8) (d : Fin 512) :
    units x i (ix3 b 0 d) = Spec.unit (listed x) b i d := by
  have e : ∀ d : Fin 512, (View.ld x (Rect.unit (s := S64x8x512) ![0, i.1, 0] S64x1x512.size (inb i)) : Vec Ideal S64x1x512 .f32) (ix3 b 0 d)
      = x (ix3 b i d) := by
    intro d
    pointwise
    blk_ext
  unfold units Spec.unit
  rw [norm_apply]
  simp only [listed_flat, e]

/-- One row of weights. -/
theorem weights_apply (x : Vec Ideal S64x8x512 .f32) (b : Fin 64) (i j : Fin 8) :
    pick (count (dots (units x i) (units x 0) (units x 1) (units x 2) (units x 3) (units x 4) (units x 5) (units x 6) (units x 7))) (ix3 b 0 j)
      = Spec.adj (listed x) b i j := by
  rw [pick_apply _ b j _ (count_apply _ b j)]
  unfold Spec.adj
  congr 4
  funext k
  rw [dots_apply]
  unfold Spec.sim
  refine Finset.sum_congr rfl fun d _ => ?_
  rw [units_apply, ← units_apply x b k]
  fin_cases k <;> rfl

/-- What the body leaves in its block. -/
theorem block (x : Vec Ideal S64x8x512 .f32) (b : Fin 64) (i j : Fin 8) : out2_1 x (ix3 b i j) = Spec.adj (listed x) b i j := by
  have key : ∀ k : Fin 8, ∀ z : S64x1x8.Idx, (b.1 = (z 0).1) → (i.1 = k.1 + (z 1).1) → (j.1 = (z 2).1) → (z 1).1 < 1 →
      pick (count (dots (units x k) (units x 0) (units x 1) (units x 2) (units x 3) (units x 4) (units x 5) (units x 6) (units x 7))) z
        = Spec.adj (listed x) b i j := by
    intro k z h0 h1 h2 hz
    have hk : i = k := Fin.ext (by omega)
    have e : z = ix3 b 0 j := by
      idx_vars z
      have a0 : z0 = b := Fin.ext h0.symm
      have a2 : z2 = j := Fin.ext h2.symm
      have a1 : z1 = 0 := Fin.ext (by have := z1.2; simp only [Fin.val_zero]; omega)
      rw [a0, a1, a2]
    rw [e, hk]
    exact weights_apply x b k j
  unfold out2_1
  canon_tiles z h
  · exact (congrFun (row7 (k2_pay102 x) (k2_pay103 x) (k2_pay104 x) (k2_pay105 x) (k2_pay106 x) (k2_pay107 x) (k2_pay108 x) (k2_pay109 x)) z).trans (key 7 z h0 h1 h2 z1_lt)
  · exact (congrFun (row6 (k2_pay102 x) (k2_pay103 x) (k2_pay104 x) (k2_pay105 x) (k2_pay106 x) (k2_pay107 x) (k2_pay108 x) (k2_pay109 x)) z).trans (key 6 z h0 h1 h2 z1_lt)
  · exact (congrFun (row5 (k2_pay102 x) (k2_pay103 x) (k2_pay104 x) (k2_pay105 x) (k2_pay106 x) (k2_pay107 x) (k2_pay108 x) (k2_pay109 x)) z).trans (key 5 z h0 h1 h2 z1_lt)
  · exact (congrFun (row4 (k2_pay102 x) (k2_pay103 x) (k2_pay104 x) (k2_pay105 x) (k2_pay106 x) (k2_pay107 x) (k2_pay108 x) (k2_pay109 x)) z).trans (key 4 z h0 h1 h2 z1_lt)
  · exact (congrFun (row3 (k2_pay102 x) (k2_pay103 x) (k2_pay104 x) (k2_pay105 x) (k2_pay106 x) (k2_pay107 x) (k2_pay108 x) (k2_pay109 x)) z).trans (key 3 z h0 h1 h2 z1_lt)
  · exact (congrFun (row2 (k2_pay102 x) (k2_pay103 x) (k2_pay104 x) (k2_pay105 x) (k2_pay106 x) (k2_pay107 x) (k2_pay108 x) (k2_pay109 x)) z).trans (key 2 z h0 h1 h2 z1_lt)
  · exact (congrFun (row1 (k2_pay102 x) (k2_pay103 x) (k2_pay104 x) (k2_pay105 x) (k2_pay106 x) (k2_pay107 x) (k2_pay108 x) (k2_pay109 x)) z).trans (key 1 z h0 h1 h2 z1_lt)
  · exact (congrFun (row0 (k2_pay102 x) (k2_pay103 x) (k2_pay104 x) (k2_pay105 x) (k2_pay106 x) (k2_pay107 x) (k2_pay108 x) (View.ld x r2_7)) z).trans (key 0 z h0 (h1.trans (Nat.zero_add _).symm) h2 z1_lt)

/-! ### The region -/

variable (V : (c : Dev nD) → (b : Ref sig .tc) → Buf (Elt Ideal) ((c : Thread nD τ).loc b))

theorem read (c : Dev nD) (t : Fin cfg2.N) : iblk2 V c 0 t = (V c main_v54 : Vec Ideal S64x8x512 .f32) := by
  have e0 : ∀ t : Fin cfg2.N, win2_0.index t = ![0, 0, 0] := by decide +kernel
  funext y
  idx_vars y
  blk_ext [iblk2, e0 t]

theorem place (t : Fin cfg2.N) (b : Fin 64) (i j : Fin 8) : ((cfg2.win 1).blk t).view.emb (ix3 b i j) = ix3 b i j := by
  have e1 : ∀ t : Fin cfg2.N, win2_1.index t = ![0, 0, 0] := by decide +kernel
  blk_ext [e1 t]

/-- The weights as an array. -/
def weights (x : Vec Ideal S64x8x512 .f32) : Vec Ideal S64x8x8 .f32 := fun j => Spec.adj (listed x) (j 0) (j 1) (j 2)

theorem block_eq (x : Vec Ideal S64x8x512 .f32) : out2_1 x = weights x := by
  funext y
  idx_vars y
  exact block x y0 y1 y2

/-- What the region leaves in its array: the neighbour weights of the rows it reads. -/
theorem array (c : Dev nD) : (dat2 V c).arrAt 1 cfg2.N = weights (V c main_v54) := by
  refine (dat2 V c).arrAt_eq_of_covers 1 _ (by decide +kernel) fun t hf y => ?_
  blk_simp
  rw [after2_1, read, block_eq]
  idx_vars y
  exact congrArg _ (place t y0 y1 y2).symm

end Cert.Adj
end
-- ==== Proof.SageRows.lean ====
/-
  The aggregation layers' bodies, shared by their three regions: the weighted sums of a group's rows, and the layer
  before its activation.
-/
module

public import proofs.«01_k».proof.Proof.Gen.KernelIdeal.Frame
public import Idealize.ShloMosaic.Lib.Pipeline.ValueKit
public import Idealize.ShloMosaic.Lib.Pointwise
public import proofs.«01_k».proof.Proof.Spec

@[expose] public section

set_option maxRecDepth 16384

noncomputable section

open Cert.KernelIdeal Cert.KernelIdeal.Gen Idealize.ShloMosaic Idealize.ShloMosaic.TcCoe Idealize.SL.Sem

namespace Cert.Sage

theorem inb (i j : Fin 8) : ∀ a, (![0, i.1, j.1] : Fin 3 → ℕ) a + S64x1x1.size a ≤ S64x8x8.size a := by
  intro a
  have := i.2; have := j.2
  fin_cases a <;> simp [S64x1x1, S64x8x8] <;> omega

/-- The weights of row `j` for row `i`, one per group. -/
def weight (p : Vec Ideal S64x8x8 .f32) (i j : Fin 8) : FVec Ideal S64x1x1 .f32 :=
  shapeCast S64x1x1 (View.ld p (Rect.unit (s := S64x8x8) ![0, i.1, j.1] S64x1x1.size (inb i j))) shapeCasts_S64x1x1_S64x1x1

/-- One weighted row. -/
def term (w : FVec Ideal S64x1x1 .f32) (h : FVec Ideal S64x1x512 .f32) : FVec Ideal S64x1x512 .f32 :=
  mulf (broadcastTo S64x1x512 w broadcasts_S64x1x1_S64x1x512) h

/-- Row `i` of every group averaged over its neighbours: eight weighted rows added in order. -/
def row (h : FVec Ideal S64x8x512 .f32) (w : Fin 8 → FVec Ideal S64x1x1 .f32) : FVec Ideal S64x1x512 .f32 :=
  addf (addf (addf (addf (addf (addf (addf (addf (broadcast S64x1x512 (Scalar.ofBits .f32 0x00000000#32))
    (term (w 0) (extractStridedSlice S64x1x512 ![0, 0, 0] h slices_S64x8x512_o0_0_0_S64x1x512)))
    (term (w 1) (extractStridedSlice S64x1x512 ![0, 1, 0] h slices_S64x8x512_o0_1_0_S64x1x512)))
    (term (w 2) (extractStridedSlice S64x1x512 ![0, 2, 0] h slices_S64x8x512_o0_2_0_S64x1x512)))
    (term (w 3) (extractStridedSlice S64x1x512 ![0, 3, 0] h slices_S64x8x512_o0_3_0_S64x1x512)))
    (term (w 4) (extractStridedSlice S64x1x512 ![0, 4, 0] h slices_S64x8x512_o0_4_0_S64x1x512)))
    (term (w 5) (extractStridedSlice S64x1x512 ![0, 5, 0] h slices_S64x8x512_o0_5_0_S64x1x512)))
    (term (w 6) (extractStridedSlice S64x1x512 ![0, 6, 0] h slices_S64x8x512_o0_6_0_S64x1x512)))
    (term (w 7) (extractStridedSlice S64x1x512 ![0, 7, 0] h slices_S64x8x512_o0_7_0_S64x1x512))

theorem row_apply (h : FVec Ideal S64x8x512 .f32) (w : Fin 8 → FVec Ideal S64x1x1 .f32) (b : Fin 64) (d : Fin 512) :
    row h w (ix3 b 0 d) = ∑ j : Fin 8, w j (ix3 b 0 0) * h (ix3 b j d) := by
  unfold row term
  pointwise
  simp only [Fin.sum_univ_eight]

theorem weight_apply (p : Vec Ideal S64x8x8 .f32) (i j : Fin 8) (b : Fin 64) : weight p i j (ix3 b 0 0) = p (ix3 b i j) := by
  unfold weight
  pointwise
  blk_ext

/-- All eight rows of every group averaged. -/
def rows (h : FVec Ideal S64x8x512 .f32) (p : Vec Ideal S64x8x8 .f32) : FVec Ideal S64x8x512 .f32 :=
  concatenate S64x8x512 1 [⟨S64x1x512, row h (weight p 0)⟩, ⟨S64x1x512, row h (weight p 1)⟩, ⟨S64x1x512, row h (weight p 2)⟩,
    ⟨S64x1x512, row h (weight p 3)⟩, ⟨S64x1x512, row h (weight p 4)⟩, ⟨S64x1x512, row h (weight p 5)⟩,
    ⟨S64x1x512, row h (weight p 6)⟩, ⟨S64x1x512, row h (weight p 7)⟩]
    concatenates_S64x1x512_S64x1x512_S64x1x512_S64x1x512_S64x1x512_S64x1x512_S64x1x512_S64x1x512_S64x8x512_d1

theorem rows_apply (h : FVec Ideal S64x8x512 .f32) (p : Vec Ideal S64x8x8 .f32) (b : Fin 64) (i : Fin 8) (d : Fin 512) :
    rows h p (ix3 b i d) = ∑ j : Fin 8, p (ix3 b i j) * h (ix3 b j d) := by
  have e : rows h p (ix3 b i d) = row h (weight p i) (ix3 b 0 d) := by
    unfold rows
    fin_cases i <;> pointwise
  rw [e, row_apply]
  simp only [weight_apply]

/-- A layer before its activation. -/
def pre (h : Vec Ideal S512x512 .f32) (p : Vec Ideal S64x8x8 .f32) (wl wr : Vec Ideal S512x512 .f32) (b : Vec Ideal S1x512 .f32) :
    FVec Ideal S512x512 .f32 :=
  addf (addf
    (matmul dot_S512x512_S512x512_S512x512_1_0_0_1_n_n none
      (truncf .bf16 (shapeCast S512x512 (rows (shapeCast S64x8x512 (shapeCast S512x512 h shapeCasts_S512x512_S512x512) shapeCasts_S512x512_S64x8x512) p)
        shapeCasts_S64x8x512_S512x512) bitsLt_bf16_f32)
      (truncf .bf16 (shapeCast S512x512 wl shapeCasts_S512x512_S512x512) bitsLt_bf16_f32) (constant S512x512 .f32 0x00000000#32))
    (matmul dot_S512x512_S512x512_S512x512_1_0_0_1_n_n none
      (truncf .bf16 (shapeCast S512x512 h shapeCasts_S512x512_S512x512) bitsLt_bf16_f32)
      (truncf .bf16 (shapeCast S512x512 wr shapeCasts_S512x512_S512x512) bitsLt_bf16_f32) (constant S512x512 .f32 0x00000000#32)))
    (broadcastTo S512x512 (shapeCast S1x512 b shapeCasts_S1x512_S1x512) broadcasts_S1x512_S512x512)

theorem pre_apply (h : Vec Ideal S512x512 .f32) (p : Vec Ideal S64x8x8 .f32) (wl wr : Vec Ideal S512x512 .f32)
    (b : Vec Ideal S1x512 .f32) (n o : Fin 512) :
    pre h p wl wr b (ix2 n o) = Spec.sage (fun g i j => p (ix3 g i j)) (fun n d => h (ix2 n d)) (fun o d => wl (ix2 d o))
      (fun o d => wr (ix2 d o)) (fun o => b (ix2 0 o)) n o := by
  unfold pre
  pointwise [rows_apply]
  unfold Spec.sage Spec.agg Spec.flat
  simp only [Nat.mul_comm 8]

end Cert.Sage
end
-- ==== Proof.Sage.lean ====
/-
  The three aggregation layers' regions: what each leaves in its array, over what its arrays hold when it is entered.
-/
module

public import proofs.«01_k».proof.Proof.SageRows

@[expose] public section

set_option maxRecDepth 16384

noncomputable section

open Cert.KernelIdeal Cert.KernelIdeal.Gen Idealize.ShloMosaic Idealize.ShloMosaic.TcCoe Idealize.SL.Sem
open Idealize.ShloMosaic.Pipeline (Dat)

namespace Cert.Sage

/-- The leaky rectifier, as the bodies spell it. -/
def act (v : FVec Ideal S512x512 .f32) : FVec Ideal S512x512 .f32 :=
  select (cmpf .oge v (broadcast S512x512 (Scalar.ofBits .f32 0x00000000#32))) v
    (mulf (broadcast S512x512 (Scalar.ofBits .f32 0x3E4CCCCD#32)) v)

theorem act_apply (v : FVec Ideal S512x512 .f32) (n o : Fin 512) : act v (ix2 n o) = Spec.leaky (v (ix2 n o)) := by
  unfold act Spec.leaky
  pointwise

/-- The classifier, as the last body spells it. -/
def classify (v : FVec Ideal S512x512 .f32) (w : Vec Ideal S512x2 .f32) (b : Vec Ideal S1x2 .f32) : FVec Ideal S64x2 .f32 :=
  addf (matmul dot_S64x512_S512x2_S64x2_1_0_0_1_n_n none
    (truncf .bf16 (divf (multiReduction .add [1] S64x512 (shapeCast S64x8x512 v shapeCasts_S512x512_S64x8x512) 0x00000000#32 reduces_S64x8x512_S64x512 (.inl rfl) rfl)
      (broadcast S64x512 (Scalar.ofBits .f32 0x41000000#32))) bitsLt_bf16_f32)
    (truncf .bf16 (shapeCast S512x2 w shapeCasts_S512x2_S512x2) bitsLt_bf16_f32) (constant S64x2 .f32 0x00000000#32))
    (broadcastTo S64x2 (shapeCast S1x2 b shapeCasts_S1x2_S1x2) broadcasts_S1x2_S64x2)

theorem classify_apply (v : FVec Ideal S512x512 .f32) (w : Vec Ideal S512x2 .f32) (b : Vec Ideal S1x2 .f32) (g : Fin 64) (o : Fin 2) :
    classify v w b (ix2 g o) = Spec.head (fun n d => v (ix2 n d)) (fun o d => w (ix2 d o)) (fun o => b (ix2 0 o)) g o := by
  unfold classify Spec.head Spec.flat
  pointwise
  simp only [Nat.mul_comm 8]

/-! The rows of the first layer's body, spread over its intermediate values. -/

theorem row3_0 (x0 : Vec Ideal S512x512 .f32) (x1 : Vec Ideal S64x8x8 .f32) :
    k3_pay6 (k3_pay3 x0) (k3_pay4 x0 (View.ld x1 r3_1) (View.ld x1 r3_2) (View.ld x1 r3_3) (View.ld x1 r3_4) (View.ld x1 r3_5))
      (k3_pay5 x0 (View.ld x1 r3_6)) (View.ld x1 r3_7) (View.ld x1 r3_8) = row (k3_pay3 x0) (weight x1 0) := by rfl

variable (h : FVec Ideal S64x8x512 .f32) (x1 : Vec Ideal S64x8x8 .f32)

theorem row3_1 : k3_pay8 h (k3_pay7 h (View.ld x1 r3_9) (View.ld x1 r3_10) (View.ld x1 r3_11) (View.ld x1 r3_12))
    (View.ld x1 r3_13) (View.ld x1 r3_14) (View.ld x1 r3_15) (View.ld x1 r3_16) = row h (weight x1 1) := by rfl

theorem row3_2 : k3_pay12 h (k3_pay9 h (View.ld x1 r3_17) (View.ld x1 r3_18)) (k3_pay10 h) (k3_pay11 (View.ld x1 r3_19))
    (View.ld x1 r3_20) (View.ld x1 r3_21) (View.ld x1 r3_22) (View.ld x1 r3_23) (View.ld x1 r3_24) = row h (weight x1 2) := by rfl

theorem row3_3 : k3_pay16 (k3_pay14 h (k3_pay13 h (View.ld x1 r3_25)) (View.ld x1 r3_26) (View.ld x1 r3_27) (View.ld x1 r3_28)
    (View.ld x1 r3_29) (View.ld x1 r3_30) (View.ld x1 r3_31)) (k3_pay15 h (View.ld x1 r3_32)) = row h (weight x1 3) := by rfl

theorem row3_4 : k3_pay18 h (k3_pay17 h (View.ld x1 r3_33) (View.ld x1 r3_34) (View.ld x1 r3_35) (View.ld x1 r3_36)
    (View.ld x1 r3_37) (View.ld x1 r3_38)) (View.ld x1 r3_39) (View.ld x1 r3_40) = row h (weight x1 4) := by rfl

theorem row3_5 : k3_pay22 h (k3_pay19 h (View.ld x1 r3_41) (View.ld x1 r3_42) (View.ld x1 r3_43) (View.ld x1 r3_44))
    (k3_pay20 h) (k3_pay21 (View.ld x1 r3_45)) (View.ld x1 r3_46) (View.ld x1 r3_47) (View.ld x1 r3_48) = row h (weight x1 5) := by rfl

theorem row3_6 : k3_pay24 h (k3_pay23 h (View.ld x1 r3_49) (View.ld x1 r3_50) (View.ld x1 r3_51))
    (View.ld x1 r3_52) (View.ld x1 r3_53) (View.ld x1 r3_54) (View.ld x1 r3_55) (View.ld x1 r3_56) = row h (weight x1 6) := by rfl

/-- The last row and the joining of all eight. -/
theorem joined3 (a b c d e f g : FVec Ideal S64x1x512 .f32) : k3_pay28 h a b c d e f g (k3_pay25 h (View.ld x1 r3_57))
    (k3_pay26 (View.ld x1 r3_58)) (k3_pay27 h) (View.ld x1 r3_59) (View.ld x1 r3_60) (View.ld x1 r3_61)
    (View.ld x1 r3_62) (View.ld x1 r3_63) (View.ld x1 r3_64)
    = truncf .bf16 (shapeCast S512x512 (concatenate S64x8x512 1 [⟨S64x1x512, a⟩, ⟨S64x1x512, b⟩, ⟨S64x1x512, c⟩,
      ⟨S64x1x512, d⟩, ⟨S64x1x512, e⟩, ⟨S64x1x512, f⟩, ⟨S64x1x512, g⟩, ⟨S64x1x512, row h (weight x1 7)⟩]
      concatenates_S64x1x512_S64x1x512_S64x1x512_S64x1x512_S64x1x512_S64x1x512_S64x1x512_S64x1x512_S64x8x512_d1)
      shapeCasts_S64x8x512_S512x512) bitsLt_bf16_f32 := by rfl

variable (x0 x2 x3 : Vec Ideal S512x512 .f32) (x4 : Vec Ideal S1x512 .f32)

/-- The matrix the first layer multiplies by its neighbour weights. -/
theorem agg3 : k3_pay28 (k3_pay3 x0) (k3_pay6 (k3_pay3 x0) (k3_pay4 x0 (View.ld x1 r3_1) (View.ld x1 r3_2) (View.ld x1 r3_3) (View.ld x1 r3_4) (View.ld x1 r3_5))
      (k3_pay5 x0 (View.ld x1 r3_6)) (View.ld x1 r3_7) (View.ld x1 r3_8))
    (k3_pay8 (k3_pay3 x0) (k3_pay7 (k3_pay3 x0) (View.ld x1 r3_9) (View.ld x1 r3_10) (View.ld x1 r3_11) (View.ld x1 r3_12))
      (View.ld x1 r3_13) (View.ld x1 r3_14) (View.ld x1 r3_15) (View.ld x1 r3_16))
    (k3_pay12 (k3_pay3 x0) (k3_pay9 (k3_pay3 x0) (View.ld x1 r3_17) (View.ld x1 r3_18)) (k3_pay10 (k3_pay3 x0)) (k3_pay11 (View.ld x1 r3_19))
      (View.ld x1 r3_20) (View.ld x1 r3_21) (View.ld x1 r3_22) (View.ld x1 r3_23) (View.ld x1 r3_24))
    (k3_pay16 (k3_pay14 (k3_pay3 x0) (k3_pay13 (k3_pay3 x0) (View.ld x1 r3_25)) (View.ld x1 r3_26) (View.ld x1 r3_27) (View.ld x1 r3_28)
      (View.ld x1 r3_29) (View.ld x1 r3_30) (View.ld x1 r3_31)) (k3_pay15 (k3_pay3 x0) (View.ld x1 r3_32)))
    (k3_pay18 (k3_pay3 x0) (k3_pay17 (k3_pay3 x0) (View.ld x1 r3_33) (View.ld x1 r3_34) (View.ld x1 r3_35) (View.ld x1 r3_36)
      (View.ld x1 r3_37) (View.ld x1 r3_38)) (View.ld x1 r3_39) (View.ld x1 r3_40))
    (k3_pay22 (k3_pay3 x0) (k3_pay19 (k3_pay3 x0) (View.ld x1 r3_41) (View.ld x1 r3_42) (View.ld x1 r3_43) (View.ld x1 r3_44))
      (k3_pay20 (k3_pay3 x0)) (k3_pay21 (View.ld x1 r3_45)) (View.ld x1 r3_46) (View.ld x1 r3_47) (View.ld x1 r3_48))
    (k3_pay24 (k3_pay3 x0) (k3_pay23 (k3_pay3 x0) (View.ld x1 r3_49) (View.ld x1 r3_50) (View.ld x1 r3_51))
      (View.ld x1 r3_52) (View.ld x1 r3_53) (View.ld x1 r3_54) (View.ld x1 r3_55) (View.ld x1 r3_56))
    (k3_pay25 (k3_pay3 x0) (View.ld x1 r3_57)) (k3_pay26 (View.ld x1 r3_58)) (k3_pay27 (k3_pay3 x0))
    (View.ld x1 r3_59) (View.ld x1 r3_60) (View.ld x1 r3_61) (View.ld x1 r3_62) (View.ld x1 r3_63) (View.ld x1 r3_64)
    = truncf .bf16 (shapeCast S512x512 (rows (k3_pay3 x0) x1) shapeCasts_S64x8x512_S512x512) bitsLt_bf16_f32 := by
  rw [row3_0, row3_1, row3_2, row3_3, row3_4, row3_5, row3_6, joined3]
  rfl

/-- A layer's two products and bias, before its activation, over its aggregated rows. -/
def mix (m : FVec Ideal S512x512 .bf16) : FVec Ideal S512x512 .f32 :=
  addf (addf
    (matmul dot_S512x512_S512x512_S512x512_1_0_0_1_n_n none m
      (truncf .bf16 (shapeCast S512x512 x2 shapeCasts_S512x512_S512x512) bitsLt_bf16_f32) (constant S512x512 .f32 0x00000000#32))
    (matmul dot_S512x512_S512x512_S512x512_1_0_0_1_n_n none
      (truncf .bf16 (shapeCast S512x512 x0 shapeCasts_S512x512_S512x512) bitsLt_bf16_f32)
      (truncf .bf16 (shapeCast S512x512 x3 shapeCasts_S512x512_S512x512) bitsLt_bf16_f32) (constant S512x512 .f32 0x00000000#32)))
    (broadcastTo S512x512 (shapeCast S1x512 x4 shapeCasts_S1x512_S1x512) broadcasts_S1x512_S512x512)

theorem pre_eq : pre x0 x1 x2 x3 x4 = mix x0 x2 x3 x4
    (truncf .bf16 (shapeCast S512x512 (rows (k3_pay3 x0) x1) shapeCasts_S64x8x512_S512x512) bitsLt_bf16_f32) := by rfl

theorem last3 (m : FVec Ideal S512x512 .bf16) : k3_pay1 (k3_pay2 x0) m x2 x3 x4 = act (mix x0 x2 x3 x4 m) := by rfl
theorem last4 (m : FVec Ideal S512x512 .bf16) : k4_pay1 (k4_pay2 x0) m x2 x3 x4 = act (mix x0 x2 x3 x4 m) := by rfl
theorem last5 (m : FVec Ideal S512x512 .bf16) (x5 : Vec Ideal S512x2 .f32) (x6 : Vec Ideal S1x2 .f32) :
    k5_pay1 (k5_pay2 x0) m x2 x3 x4 x5 x6 = classify (mix x0 x2 x3 x4 m) x5 x6 := by rfl

/-- What layer 1's body computes. -/
theorem body3 : out3_5 x0 x1 x2 x3 x4 = act (pre x0 x1 x2 x3 x4) := by
  funext y
  have e : k3_pay29 x0 x1 x2 x3 x4 = k3_pay3 x0 := by
    unfold k3_pay29 r3_0
    simp (disch := decide) only [View.ld_unit_lit']
  frame_out [e]
  rw [pre_eq, ← last3]
  exact congrArg (fun m => k3_pay1 (k3_pay2 x0) m x2 x3 x4 y) (agg3 x1 x0)

/-- What layer 2's body computes: the same as layer 1's. -/
theorem body4 : out4_5 x0 x1 x2 x3 x4 = act (pre x0 x1 x2 x3 x4) := by
  funext y
  have e : k4_pay29 x0 x1 x2 x3 x4 = k4_pay3 x0 := by
    unfold k4_pay29 r4_0
    simp (disch := decide) only [View.ld_unit_lit']
  frame_out [e]
  rw [pre_eq, ← last4]
  exact congrArg (fun m => k4_pay1 (k4_pay2 x0) m x2 x3 x4 y) (agg3 x1 x0)

/-- What layer 3's body computes: the same without the activation, with the classifier after it. -/
theorem body5 (x5 : Vec Ideal S512x2 .f32) (x6 : Vec Ideal S1x2 .f32) :
    out5_7 x0 x1 x2 x3 x4 x5 x6 = classify (pre x0 x1 x2 x3 x4) x5 x6 := by
  funext y
  have e : k5_pay29 x0 x1 x2 x3 x4 x5 x6 = k5_pay3 x0 := by
    unfold k5_pay29 r5_0
    simp (disch := decide) only [View.ld_unit_lit']
  frame_out [e]
  rw [pre_eq, ← last5]
  exact congrArg (fun m => k5_pay1 (k5_pay2 x0) m x2 x3 x4 x5 x6 y) (agg3 x1 x0)

variable (V : (c : Dev nD) → (b : Ref sig .tc) → Buf (Elt Ideal) ((c : Thread nD τ).loc b))

/-! ### What the regions read -/

set_option maxHeartbeats 2000000 in
/-- Layer 1's windows hold their whole arrays. -/
theorem reads3 (c : Dev nD) (t : Fin cfg3.N) : iblk3 V c 0 t = (V c main_v53 : Vec Ideal S512x512 .f32)
    ∧ iblk3 V c 1 t = (V c main_v55 : Vec Ideal S64x8x8 .f32) ∧ iblk3 V c 2 t = (V c main_v56 : Vec Ideal S512x512 .f32)
    ∧ iblk3 V c 3 t = (V c main_v57 : Vec Ideal S512x512 .f32) ∧ iblk3 V c 4 t = (V c main_v58 : Vec Ideal S1x512 .f32) := by
  have e0 : ∀ t : Fin cfg3.N, win3_0.index t = ![0, 0] := by decide +kernel
  have e1 : ∀ t : Fin cfg3.N, win3_1.index t = ![0, 0, 0] := by decide +kernel
  have e2 : ∀ t : Fin cfg3.N, win3_2.index t = ![0, 0] := by decide +kernel
  have e3 : ∀ t : Fin cfg3.N, win3_3.index t = ![0, 0] := by decide +kernel
  have e4 : ∀ t : Fin cfg3.N, win3_4.index t = ![0, 0] := by decide +kernel
  refine ⟨?_, ?_, ?_, ?_, ?_⟩ <;> (funext y; idx_vars y; blk_ext [iblk3, e0 t, e1 t, e2 t, e3 t, e4 t])

set_option maxHeartbeats 2000000 in
/-- Layer 2's windows hold their whole arrays. -/
theorem reads4 (c : Dev nD) (t : Fin cfg4.N) : iblk4 V c 0 t = (V c main_v59 : Vec Ideal S512x512 .f32)
    ∧ iblk4 V c 1 t = (V c main_v55 : Vec Ideal S64x8x8 .f32) ∧ iblk4 V c 2 t = (V c main_v60 : Vec Ideal S512x512 .f32)
    ∧ iblk4 V c 3 t = (V c main_v61 : Vec Ideal S512x512 .f32) ∧ iblk4 V c 4 t = (V c main_v62 : Vec Ideal S1x512 .f32) := by
  have e0 : ∀ t : Fin cfg4.N, win4_0.index t = ![0, 0] := by decide +kernel
  have e1 : ∀ t : Fin cfg4.N, win4_1.index t = ![0, 0, 0] := by decide +kernel
  have e2 : ∀ t : Fin cfg4.N, win4_2.index t = ![0, 0] := by decide +kernel
  have e3 : ∀ t : Fin cfg4.N, win4_3.index t = ![0, 0] := by decide +kernel
  have e4 : ∀ t : Fin cfg4.N, win4_4.index t = ![0, 0] := by decide +kernel
  refine ⟨?_, ?_, ?_, ?_, ?_⟩ <;> (funext y; idx_vars y; blk_ext [iblk4, e0 t, e1 t, e2 t, e3 t, e4 t])

set_option maxHeartbeats 2000000 in
/-- Layer 3's windows hold their whole arrays. -/
theorem reads5 (c : Dev nD) (t : Fin cfg5.N) : iblk5 V c 0 t = (V c main_v63 : Vec Ideal S512x512 .f32)
    ∧ iblk5 V c 1 t = (V c main_v55 : Vec Ideal S64x8x8 .f32) ∧ iblk5 V c 2 t = (V c main_v64 : Vec Ideal S512x512 .f32)
    ∧ iblk5 V c 3 t = (V c main_v65 : Vec Ideal S512x512 .f32) ∧ iblk5 V c 4 t = (V c main_v66 : Vec Ideal S1x512 .f32)
    ∧ iblk5 V c 5 t = (V c main_v67 : Vec Ideal S512x2 .f32) ∧ iblk5 V c 6 t = (V c main_v68 : Vec Ideal S1x2 .f32) := by
  have e0 : ∀ t : Fin cfg5.N, win5_0.index t = ![0, 0] := by decide +kernel
  have e1 : ∀ t : Fin cfg5.N, win5_1.index t = ![0, 0, 0] := by decide +kernel
  have e2 : ∀ t : Fin cfg5.N, win5_2.index t = ![0, 0] := by decide +kernel
  have e3 : ∀ t : Fin cfg5.N, win5_3.index t = ![0, 0] := by decide +kernel
  have e4 : ∀ t : Fin cfg5.N, win5_4.index t = ![0, 0] := by decide +kernel
  have e5 : ∀ t : Fin cfg5.N, win5_5.index t = ![0, 0] := by decide +kernel
  have e6 : ∀ t : Fin cfg5.N, win5_6.index t = ![0, 0] := by decide +kernel
  refine ⟨?_, ?_, ?_, ?_, ?_, ?_, ?_⟩ <;> (funext y; idx_vars y; blk_ext [iblk5, e0 t, e1 t, e2 t, e3 t, e4 t, e5 t, e6 t])

/-! ### What the regions leave -/

/-- What layer 1's region leaves in its array. -/
theorem array3 (c : Dev nD) : (dat3 V c).arrAt 5 cfg3.N
    = act (pre (V c main_v53) (V c main_v55) (V c main_v56) (V c main_v57) (V c main_v58)) := by
  have e : ∀ t : Fin cfg3.N, win3_5.index t = ![0, 0] := by decide +kernel
  refine (dat3 V c).arrAt_eq_of_covers 5 _ (by decide +kernel) fun t hf y => ?_
  blk_simp
  obtain ⟨h0, h1, h2, h3, h4⟩ := reads3 V c t
  rw [after3_5, body3, h0, h1, h2, h3, h4]
  idx_vars y
  have p : ((cfg3.win 5).blk t).view.emb (ix2 y0 y1 : S512x512.Idx) = ix2 y0 y1 := by blk_ext [e t]
  exact congrArg _ p.symm

/-- What layer 2's region leaves in its array. -/
theorem array4 (c : Dev nD) : (dat4 V c).arrAt 5 cfg4.N
    = act (pre (V c main_v59) (V c main_v55) (V c main_v60) (V c main_v61) (V c main_v62)) := by
  have e : ∀ t : Fin cfg4.N, win4_5.index t = ![0, 0] := by decide +kernel
  refine (dat4 V c).arrAt_eq_of_covers 5 _ (by decide +kernel) fun t hf y => ?_
  blk_simp
  obtain ⟨h0, h1, h2, h3, h4⟩ := reads4 V c t
  rw [after4_5, body4, h0, h1, h2, h3, h4]
  idx_vars y
  have p : ((cfg4.win 5).blk t).view.emb (ix2 y0 y1 : S512x512.Idx) = ix2 y0 y1 := by blk_ext [e t]
  exact congrArg _ p.symm

set_option maxHeartbeats 2000000 in
/-- What layer 3's region leaves in its array. -/
theorem array5 (c : Dev nD) : (dat5 V c).arrAt 7 cfg5.N
    = classify (pre (V c main_v63) (V c main_v55) (V c main_v64) (V c main_v65) (V c main_v66)) (V c main_v67) (V c main_v68) := by
  have e : ∀ t : Fin cfg5.N, win5_7.index t = ![0, 0] := by decide +kernel
  refine (dat5 V c).arrAt_eq_of_covers 7 _ (by decide +kernel) fun t hf y => ?_
  blk_simp
  obtain ⟨h0, h1, h2, h3, h4, h5, h6⟩ := reads5 V c t
  rw [after5_7, body5, h0, h1, h2, h3, h4, h5, h6]
  idx_vars y
  have p : ((cfg5.win 7).blk t).view.emb (ix2 y0 y1 : S64x2.Idx) = ix2 y0 y1 := by blk_ext [e t]
  exact congrArg _ p.symm

end Cert.Sage
end
-- ==== Proof.Fold.lean ====
/-
  The kernel's program followed from its launch: what each region leaves, as the network's functions of the arguments.
-/
module

public import proofs.«01_k».proof.Proof.Net
public import proofs.«01_k».proof.Proof.Host1
public import proofs.«01_k».proof.Proof.Host2
public import proofs.«01_k».proof.Proof.Conv1
public import proofs.«01_k».proof.Proof.Conv2
public import proofs.«01_k».proof.Proof.Adj
public import proofs.«01_k».proof.Proof.Sage

@[expose] public section

set_option maxRecDepth 16384

noncomputable section

open Cert.KernelIdeal Cert.KernelIdeal.Gen Idealize.ShloMosaic Idealize.ShloMosaic.TcCoe Idealize.SL.Sem

namespace Cert.Fold

variable (m : (ℓ : Loc nD τ sig) → Buf (Elt Ideal) ℓ) (ρ : Dev nD → PrngReg) (c : Dev nD)

/-- An argument's contents at the launch. -/
abbrev arg (a : Ref sig .tc) : Buf (Elt Ideal) ((c : Thread nD τ).loc a) := m ((c : Thread nD τ).loc a)

/-- The arguments' entries. -/
def args : Spec.Args where
  img n i j := (arg m c main_arg0 : Vec Ideal S64x8x1x64x64 .f32) (ix5 (⟨n.1 / 8, by omega⟩ : Fin 64) (⟨n.1 % 8, by omega⟩ : Fin 8) 0 i j)
  w1 f a b := (arg m c main_arg1 : Vec Ideal S64x1x7x7 .f32) (ix4 f 0 a b)
  b1 f := (arg m c main_arg2 : Vec Ideal S64 .f32) (ix1 f)
  w2 o f a b := (arg m c main_arg3 : Vec Ideal S512x64x3x3 .f32) (ix4 o f a b)
  b2 o := (arg m c main_arg4 : Vec Ideal S512 .f32) (ix1 o)
  l1 o d := (arg m c main_arg5 : Vec Ideal S512x512 .f32) (ix2 o d)
  r1 o d := (arg m c main_arg6 : Vec Ideal S512x512 .f32) (ix2 o d)
  c1 o := (arg m c main_arg7 : Vec Ideal S512 .f32) (ix1 o)
  l2 o d := (arg m c main_arg8 : Vec Ideal S512x512 .f32) (ix2 o d)
  r2 o d := (arg m c main_arg9 : Vec Ideal S512x512 .f32) (ix2 o d)
  c2 o := (arg m c main_arg10 : Vec Ideal S512 .f32) (ix1 o)
  l3 o d := (arg m c main_arg11 : Vec Ideal S512x512 .f32) (ix2 o d)
  r3 o d := (arg m c main_arg12 : Vec Ideal S512x512 .f32) (ix2 o d)
  c3 o := (arg m c main_arg13 : Vec Ideal S512 .f32) (ix1 o)
  wc o d := (arg m c main_arg14 : Vec Ideal S2x512 .f32) (ix2 o d)
  bc o := (arg m c main_arg15 : Vec Ideal S2 .f32) (ix1 o)

/-- A sum over the 68 columns against weights that are zero off the seven from `4 x` on. -/
theorem columns (x : Fin 16) (u s : Fin 68 → EReal) (t : Fin 7 → EReal)
    (hit : ∀ b : Fin 7, s ⟨4 * x.1 + b.1, by omega⟩ = t b) (miss : ∀ k : Fin 68, ¬ (4 * x.1 ≤ k.1 ∧ k.1 < 4 * x.1 + 7) → s k = 0) :
    ∑ k : Fin 68, u k * s k = ∑ b : Fin 7, u ⟨4 * x.1 + b.1, by omega⟩ * t b := by
  refine (Fintype.sum_of_injective (fun b : Fin 7 => (⟨4 * x.1 + b.1, by omega⟩ : Fin 68)) ?_ _ _ ?_ ?_).symm
  · intro a b h
    have h := congrArg Fin.val h
    exact Fin.ext (by simp only [] at h; omega)
  · intro k hk
    rw [miss k fun ⟨h1, h2⟩ => hk ⟨⟨k.1 - 4 * x.1, by omega⟩, Fin.ext (by simp only []; omega)⟩, mul_zero]
  · intro b
    rw [hit b]

theorem padded_images (n : Fin 512) (r k : Fin 68) : (W2 m ρ c main_v1 : Vec Ideal S512x68x68 .f32) (ix3 n r k)
    = Spec.padded (args m c).img n r.1 k.1 := by
  refine (Host1.padding (W1 m ρ c) ?_ n r k).trans ?_
  · show StableHlo.after hostOps0 (W0 m ρ c) main_c = _
    after_reads_simp
  · refine congrArg (fun f => Spec.padded f n r.1 k.1) (funext fun n => funext fun i => funext fun j => ?_)
    exact Host1.images (W0 m ρ c) n i j

/-- The first convolution read off padded images and spread weights. -/
theorem result_eq (A : Spec.Args) (u : Vec Ideal S512x17x4x68 .f32) (w : Vec Ideal S7x68x1024 .bf16) (b : Vec Ideal S1x1024 .f32)
    (hu : ∀ n r s k, u (ix4 n r s k) = Spec.padded A.img n (4 * r.1 + s.1) k.1)
    (hit : ∀ (h b : Fin 7) (x : Fin 16) (f : Fin 64), w (ix3 h (⟨4 * x.1 + b.1, by omega⟩ : Fin 68) (⟨64 * x.1 + f.1, by omega⟩ : Fin 1024)) = A.w1 f h b)
    (miss : ∀ (h : Fin 7) (k : Fin 68) (x : Fin 16) (f : Fin 64), ¬ (4 * x.1 ≤ k.1 ∧ k.1 < 4 * x.1 + 7) →
      w (ix3 h k (⟨64 * x.1 + f.1, by omega⟩ : Fin 1024)) = (0 : EReal))
    (hb : ∀ (x : Fin 16) (f : Fin 64), b (ix2 0 (⟨64 * x.1 + f.1, by omega⟩ : Fin 1024)) = A.b1 f)
    (n : Fin 512) (y x : Fin 16) (f : Fin 64) :
    Conv1.result u w b (⟨16 * n.1 + y.1, by omega⟩ : Fin 8192) (⟨64 * x.1 + f.1, by omega⟩ : Fin 1024) = Spec.features A n f y x := by
  have hn : (⟨(16 * n.1 + y.1) / 16, by omega⟩ : Fin 512) = n := Fin.ext (by simp only []; omega)
  have hy : (⟨(16 * n.1 + y.1) % 16, by omega⟩ : Fin 16) = y := Fin.ext (by simp only []; omega)
  unfold Conv1.result Conv1.rows Spec.features Spec.conv1
  simp only [hn, hy, hb]
  refine congrArg (fun s => max (s + A.b1 f) 0) (Finset.sum_congr rfl fun kh _ => ?_)
  refine (columns x _ _ (fun b => A.w1 f kh b) (fun b => hit kh b x f) (fun k hk => miss kh k x f hk)).trans ?_
  refine Finset.sum_congr rfl fun b _ => congrArg (· * _) ((hu ..).trans ?_)
  exact congrArg (fun r => Spec.padded A.img n r (4 * x.1 + b.1)) (by simp only []; omega)

/-- The first region's result at image `n`, position `(y, x)` and channel `f`. -/
theorem conv (n : Fin 512) (y x : Fin 16) (f : Fin 64) : (W4 m ρ c main_v48 : Vec Ideal S8192x1024 .bf16)
      (ix2 (⟨16 * n.1 + y.1, by omega⟩ : Fin 8192) (⟨64 * x.1 + f.1, by omega⟩ : Fin 1024))
    = Spec.features (args m c) n f y x := by
  refine (congrFun ((W4_arr m ρ c 3).trans (Conv1.array (V3 m ρ) c)) _).trans ?_
  have hx (x : Fin 16) (f : Fin 64) : (⟨(64 * x.1 + f.1) / 64, by omega⟩ : Fin 16) = x := Fin.ext (by simp only []; omega)
  have hf (x : Fin 16) (f : Fin 64) : (⟨(64 * x.1 + f.1) % 64, by omega⟩ : Fin 64) = f := Fin.ext (by simp only []; omega)
  refine result_eq (args m c) (V3 m ρ c main_v2) (V3 m ρ c main_v43) (V3 m ρ c main_v47) (fun n r s k => ?_) (fun h b x f => ?_)
    (fun h k x f hk => ?_) (fun x f => ?_) n y x f
  · exact (Host1.rows (W2 m ρ c) _ _ _ _).trans (padded_images m ρ c _ _ _)
  · refine (Host1.weights (W2 m ρ c) _ _ _).trans ?_
    simp only [hx, hf]
    refine (Host1.spread_hit (W2 m ρ c) _ h b x f _ rfl).trans ?_
    exact congrFun (W2_args m ρ c main_arg1 (by decide)) _
  · refine (Host1.weights (W2 m ρ c) _ _ _).trans ?_
    simp only [hx, hf]
    exact Host1.spread_miss (W2 m ρ c) _ h x f k hk
  · refine (Host1.bias (W2 m ρ c) _).trans ?_
    simp only [hf]
    exact congrFun (W2_args m ρ c main_arg2 (by decide)) _

/-- The second convolution's averages read off the cut features. -/
theorem pooled_eq (A : Spec.Args) (u : Vec Ideal S512x4x4x4x4x64 .bf16) (w : Vec Ideal S9x64x512 .f32) (b : Vec Ideal S1x512 .f32)
    (hu : ∀ n y kh x kw f, u (ix6 n y kh x kw f) = Spec.features A n f ⟨4 * y.1 + kh.1, by omega⟩ ⟨4 * x.1 + kw.1, by omega⟩)
    (hw : ∀ (kh kw : Fin 3) (f : Fin 64) (d : Fin 512), w (ix3 (⟨3 * kh.1 + kw.1, by omega⟩ : Fin 9) f d) = A.w2 d f kh kw)
    (hb : ∀ d : Fin 512, b (ix2 0 d) = A.b2 d) (n d : Fin 512) : Conv2.pooled (N := 512) u w b n d = Spec.encoding A n d := by
  unfold Conv2.pooled Spec.encoding Spec.enc Spec.conv2
  simp only [hu, hw, hb]
  rfl

theorem encoding (n d : Fin 512) : (W6 m ρ c main_v53 : Vec Ideal S512x512 .f32) (ix2 n d) = Spec.encoding (args m c) n d := by
  refine (congrFun ((W6_arr m ρ c 3).trans (Conv2.array (V5 m ρ) c)) _).trans ?_
  refine pooled_eq (args m c) (V5 m ρ c main_v49) (V5 m ρ c main_v51) (V5 m ρ c main_v52) (fun n y kh x kw f => ?_) (fun kh kw f d => ?_)
    (fun d => ?_) n d
  · refine (Host2.cut (W4 m ρ c) n y kh x kw f).trans (Eq.trans ?_ (conv m ρ c n ⟨4 * y.1 + kh.1, by omega⟩ ⟨4 * x.1 + kw.1, by omega⟩ f))
    exact congrArg (W4 m ρ c main_v48 : Vec Ideal S8192x1024 .bf16)
      (congrArg₂ ix2 (Fin.ext (by simp only []; omega)) (Fin.ext (by simp only []; omega)))
  · exact (Host2.taps (W4 m ρ c) kh kw f d).trans (congrFun (W4_args m ρ c main_arg3 (by decide)) _)
  · exact (Host2.bias (W4 m ρ c) d).trans (congrFun (W4_args m ρ c main_arg4 (by decide)) _)

/-- The neighbours' weights. -/
theorem weights (b : Fin 64) (i j : Fin 8) : (W8 m ρ c main_v55 : Vec Ideal S64x8x8 .f32) (ix3 b i j) = Spec.weights (args m c) b i j := by
  refine (congrFun ((W8_arr m ρ c 1).trans (Adj.array (V7 m ρ) c)) _).trans ?_
  refine congrArg (fun e => Spec.adj e b i j) (funext fun n => funext fun d => ?_)
  refine (Host2.groups (W6 m ρ c) _ _ d).trans (Eq.trans ?_ (encoding m ρ c n d))
  exact congrArg (W6 m ρ c main_v53 : Vec Ideal S512x512 .f32) (congrArg₂ ix2 (Fin.ext (by simp only []; omega)) rfl)

end Cert.Fold
end
-- ==== Proof.Layers.lean ====
/-
  The kernel's three layers and its classifier, after the neighbours' weights.
-/
module

public import proofs.«01_k».proof.Proof.Fold

@[expose] public section

set_option maxRecDepth 16384

noncomputable section

open Cert.KernelIdeal Cert.KernelIdeal.Gen Idealize.ShloMosaic Idealize.ShloMosaic.TcCoe Idealize.SL.Sem

namespace Cert.Layers

/-- One layer before its activation, read off arrays known entry by entry. -/
theorem pre_eq (h : Vec Ideal S512x512 .f32) (p : Vec Ideal S64x8x8 .f32) (wl wr : Vec Ideal S512x512 .f32) (b : Vec Ideal S1x512 .f32)
    (P : Fin 64 → Fin 8 → Fin 8 → EReal) (H L R : Fin 512 → Fin 512 → EReal) (B : Fin 512 → EReal)
    (hh : ∀ n d, h (ix2 n d) = H n d) (hp : ∀ g i j, p (ix3 g i j) = P g i j) (hl : ∀ d o, wl (ix2 d o) = L o d)
    (hr : ∀ d o, wr (ix2 d o) = R o d) (hb : ∀ o, b (ix2 0 o) = B o) (n o : Fin 512) :
    Sage.pre h p wl wr b (ix2 n o) = Spec.sage P H L R B n o := by
  rw [Sage.pre_apply]
  simp only [hh, hp, hl, hr, hb]

variable (m : (ℓ : Loc nD τ sig) → Buf (Elt Ideal) ℓ) (ρ : Dev nD → PrngReg) (c : Dev nD)

open Cert.Fold

theorem weights9 (g : Fin 64) (i j : Fin 8) : (W9 m ρ c main_v55 : Vec Ideal S64x8x8 .f32) (ix3 g i j) = Spec.weights (args m c) g i j :=
  (congrFun (W9_of m ρ c main_v55 (by decide)) _).trans (Fold.weights m ρ c g i j)

theorem weights11 (g : Fin 64) (i j : Fin 8) : (W11 m ρ c main_v55 : Vec Ideal S64x8x8 .f32) (ix3 g i j) = Spec.weights (args m c) g i j :=
  (congrFun ((W11_of m ρ c main_v55 (by decide)).trans (W10_of m ρ c main_v55 (by decide +kernel))) _).trans (weights9 m ρ c g i j)

theorem weights13 (g : Fin 64) (i j : Fin 8) : (W13 m ρ c main_v55 : Vec Ideal S64x8x8 .f32) (ix3 g i j) = Spec.weights (args m c) g i j :=
  (congrFun ((W13_of m ρ c main_v55 (by decide)).trans (W12_of m ρ c main_v55 (by decide +kernel))) _).trans (weights11 m ρ c g i j)

theorem encoding9 (n d : Fin 512) : (W9 m ρ c main_v53 : Vec Ideal S512x512 .f32) (ix2 n d) = Spec.encoding (args m c) n d :=
  (congrFun ((W9_of m ρ c main_v53 (by decide)).trans ((W8_of m ρ c main_v53 (by decide +kernel)).trans (W7_of m ρ c main_v53 (by decide)))) _).trans
    (Fold.encoding m ρ c n d)

theorem layer1 (n o : Fin 512) : (W10 m ρ c main_v59 : Vec Ideal S512x512 .f32) (ix2 n o) = Spec.layer1 (args m c) n o := by
  refine (congrFun ((W10_arr m ρ c 5).trans (Sage.array3 (V9 m ρ) c)) _).trans ((Sage.act_apply _ _ _).trans ?_)
  exact congrArg Spec.leaky (pre_eq _ _ _ _ _ _ _ (args m c).l1 (args m c).r1 (args m c).c1 (encoding9 m ρ c) (weights9 m ρ c)
    (fun d o => (Host2.left1 (W8 m ρ c) d o).trans (congrFun (W8_args m ρ c main_arg5 (by decide)) _))
    (fun d o => (Host2.right1 (W8 m ρ c) d o).trans (congrFun (W8_args m ρ c main_arg6 (by decide)) _))
    (fun o => (Host2.bias1 (W8 m ρ c) o).trans (congrFun (W8_args m ρ c main_arg7 (by decide)) _)) n o)

theorem layer1' (n o : Fin 512) : (W11 m ρ c main_v59 : Vec Ideal S512x512 .f32) (ix2 n o) = Spec.layer1 (args m c) n o :=
  (congrFun (W11_of m ρ c main_v59 (by decide)) _).trans (layer1 m ρ c n o)

theorem layer2 (n o : Fin 512) : (W12 m ρ c main_v63 : Vec Ideal S512x512 .f32) (ix2 n o) = Spec.layer2 (args m c) n o := by
  refine (congrFun ((W12_arr m ρ c 5).trans (Sage.array4 (V11 m ρ) c)) _).trans ((Sage.act_apply _ _ _).trans ?_)
  exact congrArg Spec.leaky (pre_eq _ _ _ _ _ _ _ (args m c).l2 (args m c).r2 (args m c).c2 (layer1' m ρ c) (weights11 m ρ c)
    (fun d o => (Host2.left2 (W10 m ρ c) d o).trans (congrFun (W10_args m ρ c main_arg8 (by decide)) _))
    (fun d o => (Host2.right2 (W10 m ρ c) d o).trans (congrFun (W10_args m ρ c main_arg9 (by decide)) _))
    (fun o => (Host2.bias2 (W10 m ρ c) o).trans (congrFun (W10_args m ρ c main_arg10 (by decide)) _)) n o)

theorem layer2' (n o : Fin 512) : (W13 m ρ c main_v63 : Vec Ideal S512x512 .f32) (ix2 n o) = Spec.layer2 (args m c) n o :=
  (congrFun (W13_of m ρ c main_v63 (by decide)) _).trans (layer2 m ρ c n o)

theorem layer3 (n o : Fin 512) : Sage.pre (V13 m ρ c main_v63) (V13 m ρ c main_v55) (V13 m ρ c main_v64) (V13 m ρ c main_v65) (V13 m ρ c main_v66) (ix2 n o)
    = Spec.layer3 (args m c) n o :=
  pre_eq _ _ _ _ _ _ _ (args m c).l3 (args m c).r3 (args m c).c3 (layer2' m ρ c) (weights13 m ρ c)
    (fun d o => (Host2.left3 (W12 m ρ c) d o).trans (congrFun (W12_args m ρ c main_arg11 (by decide)) _))
    (fun d o => (Host2.right3 (W12 m ρ c) d o).trans (congrFun (W12_args m ρ c main_arg12 (by decide)) _))
    (fun o => (Host2.bias3 (W12 m ρ c) o).trans (congrFun (W12_args m ρ c main_arg13 (by decide)) _)) n o

/-- The classifier, read off arrays known entry by entry. -/
theorem classify_eq (v : Vec Ideal S512x512 .f32) (w : Vec Ideal S512x2 .f32) (b : Vec Ideal S1x2 .f32) (H : Fin 512 → Fin 512 → EReal)
    (C : Fin 2 → Fin 512 → EReal) (B : Fin 2 → EReal) (hv : ∀ n d, v (ix2 n d) = H n d) (hw : ∀ d o, w (ix2 d o) = C o d)
    (hb : ∀ o, b (ix2 0 o) = B o) (g : Fin 64) (o : Fin 2) : Sage.classify v w b (ix2 g o) = Spec.head H C B g o := by
  rw [Sage.classify_apply]
  simp only [hv, hw, hb]

/-- What the kernel's program leaves in its result. -/
theorem result (g : Fin 64) (o : Fin 2) : (W14 m ρ c main_v69 : Vec Ideal S64x2 .f32) (ix2 g o) = Spec.net (args m c) g o := by
  refine (congrFun ((W14_arr m ρ c 7).trans (Sage.array5 (V13 m ρ) c)) _).trans ?_
  exact classify_eq _ _ _ _ (args m c).wc (args m c).bc (layer3 m ρ c)
    (fun d o => (Host2.last (W12 m ρ c) d o).trans (congrFun (W12_args m ρ c main_arg14 (by decide)) _))
    (fun o => (Host2.biasLast (W12 m ρ c) o).trans (congrFun (W12_args m ρ c main_arg15 (by decide)) _)) g o

end Cert.Layers
end
-- ==== Proof.RefConv.lean ====
/-
  The reference's two convolutions, read entry by entry: the same features and encodings.
-/
module

public import proofs.«01_k».proof.Proof.Net
public import proofs.«01_k».proof.Proof.Gen.ReferenceIdeal.Run
public import Idealize.ShloMosaic.Lib.Pipeline.ValueKit
public import Idealize.ShloMosaic.Lib.Pointwise

@[expose] public section

set_option maxRecDepth 16384

noncomputable section

open Cert.ReferenceIdeal Cert.ReferenceIdeal.Gen Cert.ReferenceIdeal.Value Idealize.ShloMosaic Idealize.ShloMosaic.TcCoe Idealize.SL.Sem

namespace Cert.RefConv

variable (V : Valuation τ sig (Elt Ideal))

/-- The arguments' entries. -/
def args : Spec.Args where
  img n i j := (V main_arg0 : Vec Ideal S64x8x1x64x64 .f32) (ix5 (⟨n.1 / 8, by omega⟩ : Fin 64) (⟨n.1 % 8, by omega⟩ : Fin 8) 0 i j)
  w1 f a b := (V main_arg1 : Vec Ideal S64x1x7x7 .f32) (ix4 f 0 a b)
  b1 f := (V main_arg2 : Vec Ideal S64 .f32) (ix1 f)
  w2 o f a b := (V main_arg3 : Vec Ideal S512x64x3x3 .f32) (ix4 o f a b)
  b2 o := (V main_arg4 : Vec Ideal S512 .f32) (ix1 o)
  l1 o d := (V main_arg5 : Vec Ideal S512x512 .f32) (ix2 o d)
  r1 o d := (V main_arg6 : Vec Ideal S512x512 .f32) (ix2 o d)
  c1 o := (V main_arg7 : Vec Ideal S512 .f32) (ix1 o)
  l2 o d := (V main_arg8 : Vec Ideal S512x512 .f32) (ix2 o d)
  r2 o d := (V main_arg9 : Vec Ideal S512x512 .f32) (ix2 o d)
  c2 o := (V main_arg10 : Vec Ideal S512 .f32) (ix1 o)
  l3 o d := (V main_arg11 : Vec Ideal S512x512 .f32) (ix2 o d)
  r3 o d := (V main_arg12 : Vec Ideal S512x512 .f32) (ix2 o d)
  c3 o := (V main_arg13 : Vec Ideal S512 .f32) (ix1 o)
  wc o d := (V main_arg14 : Vec Ideal S2x512 .f32) (ix2 o d)
  bc o := (V main_arg15 : Vec Ideal S2 .f32) (ix1 o)

/-- The index with three coordinates, over sizes given as a list. -/
def tri {a b c : ℕ} (i : Fin a) (j : Fin b) (k : Fin c) : (Shape.ofList [a, b, c]).Idx := fun q => match q with
  | ⟨0, _⟩ => i
  | ⟨1, _⟩ => j
  | ⟨2, _⟩ => k

/-- Such an index is its three coordinates. -/
def triEquiv (a b c : ℕ) : (Shape.ofList [a, b, c]).Idx ≃ Fin a × Fin b × Fin c where
  toFun q := (q ⟨0, Nat.succ_pos 2⟩, q ⟨1, Nat.succ_lt_succ (Nat.succ_pos 1)⟩, q ⟨2, Nat.lt_succ_self 2⟩)
  invFun p := tri p.1 p.2.1 p.2.2
  left_inv q := by
    funext r
    match r with
    | ⟨0, _⟩ => rfl
    | ⟨1, _⟩ => rfl
    | ⟨2, _⟩ => rfl
  right_inv p := rfl

/-- A sum over such indices is the sum over the coordinates. -/
theorem sum_tri {a b c : ℕ} (f : (Shape.ofList [a, b, c]).Idx → EReal) : ∑ q, f q = ∑ i, ∑ j, ∑ k, f (tri i j k) := by
  rw [← Equiv.sum_comp (triEquiv a b c).symm f, Fintype.sum_prod_type]
  refine Finset.sum_congr rfl fun i _ => ?_
  rw [Fintype.sum_prod_type]
  rfl

/-- The first convolution's product, entry by entry. -/
theorem dot1 (w : Vec Ideal S64x1x7x7 .f32) (u : Vec Ideal S512x1x7x7x16x16 .f32) (n : Fin 512) (f : Fin 64) (y x : Fin 16) :
    Ideal.matmul dot_S64x1x7x7_S512x1x7x7x16x16_S64x512x16x16_123_123_0_045_n_n w u (fun _ => 0) (ix4 f n y x)
      = ∑ kh : Fin 7, ∑ kw : Fin 7, w (ix4 f 0 kh kw) * u (ix6 n 0 kh kw y x) := by
  unfold Ideal.matmul
  rw [zero_add]
  refine (sum_tri (a := 1) (b := 7) (c := 7) _).trans ?_
  rw [Fin.sum_univ_one]
  refine Finset.sum_congr rfl fun kh _ => Finset.sum_congr rfl fun kw _ => ?_
  refine congrArg₂ (· * ·) (congrArg w ?_) (congrArg u ?_) <;> funext q <;> fin_cases q <;> rfl

/-- The second convolution's product, entry by entry. -/
theorem dot2 (w : Vec Ideal S512x64x3x3 .f32) (u : Vec Ideal S512x64x3x3x4x4 .f32) (n d : Fin 512) (y x : Fin 4) :
    Ideal.matmul dot_S512x64x3x3_S512x64x3x3x4x4_S512x512x4x4_123_123_0_045_n_n w u (fun _ => 0) (ix4 d n y x)
      = ∑ f : Fin 64, ∑ kh : Fin 3, ∑ kw : Fin 3, w (ix4 d f kh kw) * u (ix6 n f kh kw y x) := by
  unfold Ideal.matmul
  rw [zero_add]
  refine (sum_tri (a := 64) (b := 3) (c := 3) _).trans ?_
  refine Finset.sum_congr rfl fun f _ => Finset.sum_congr rfl fun kh _ => Finset.sum_congr rfl fun kw _ => ?_
  refine congrArg₂ (· * ·) (congrArg w ?_) (congrArg u ?_) <;> funext q <;> fin_cases q <;> rfl

/-- The images, with their border of zeros. -/
theorem border (n : Fin 512) (r c : Fin 67) : (res_main_v1 V : Vec Ideal S512x1x67x67 .f32) (ix4 n 0 r c)
    = Spec.padded (args V).img n r c := by
  unfold res_main_v1
  unfold Spec.padded args
  pointwise
  by_cases h : (1 ≤ r.1 ∧ r.1 < 65) ∧ 1 ≤ c.1 ∧ c.1 < 65
  · rw [dif_pos h, dif_pos (by omega)]
  · rw [dif_neg h, dif_neg (by omega)]
    show (((0#32 : BitVec 32).toInt : ℝ) : EReal) = 0
    norm_num [BitVec.toInt]

/-- The seven rows each output row reads. -/
theorem rows (n : Fin 512) (kh : Fin 7) (y : Fin 16) (c : Fin 67) : (res_main_v16 V : Vec Ideal S512x1x7x16x67 .f32) (ix5 n 0 kh y c)
    = (res_main_v1 V : Vec Ideal S512x1x67x67 .f32) (ix4 n 0 (⟨4 * y.1 + kh.1, by omega⟩ : Fin 67) c) := by
  unfold res_main_v16
  generalize (res_main_v1 V : Vec Ideal S512x1x67x67 .f32) = u
  fin_cases kh <;> pointwise <;> simp only [Nat.add_comm]

/-- The first convolution's channels. -/
theorem features (n : Fin 512) (f : Fin 64) (y x : Fin 16) : (res_main_v38 V : Vec Ideal S512x64x16x16 .f32) (ix4 n f y x)
    = Spec.features (args V) n f y x := by
  have e : ∀ kh kw : Fin 7, (res_main_v16 V : Vec Ideal S512x1x7x16x67 .f32) (ix5 n 0 kh y (⟨4 * x.1 + kw.1, by omega⟩ : Fin 67))
      = Spec.padded (args V).img n (4 * y.1 + kh.1) (4 * x.1 + kw.1) := fun kh kw => by rw [rows, border]
  unfold res_main_v38
  unfold Spec.features Spec.conv1
  simp only [← e]
  generalize (res_main_v16 V : Vec Ideal S512x1x7x16x67 .f32) = u
  pointwise
  rw [dot1]
  refine congrArg (fun t : EReal => max t 0) (congrArg (fun t : EReal => t + _)
    (Finset.sum_congr rfl fun kh _ => Finset.sum_congr rfl fun kw _ => ?_))
  refine (mul_comm _ _).trans (congrArg₂ (· * ·) ?_ rfl)
  fin_cases kw <;> pointwise <;> simp only [Nat.add_comm]

/-- The three rows each output row reads. -/
theorem rows2 (n : Fin 512) (f : Fin 64) (kh : Fin 3) (y : Fin 4) (c : Fin 16) : (res_main_v45 V : Vec Ideal S512x64x3x4x16 .f32) (ix5 n f kh y c)
    = (res_main_v38 V : Vec Ideal S512x64x16x16 .f32) (ix4 n f (⟨4 * y.1 + kh.1, by omega⟩ : Fin 16) c) := by
  unfold res_main_v45
  generalize (res_main_v38 V : Vec Ideal S512x64x16x16 .f32) = u
  fin_cases kh <;> pointwise <;> simp only [Nat.add_comm]

/-- The encodings. -/
theorem encoding (n d : Fin 512) : (res_main_v61 V : Vec Ideal S512x512 .f32) (ix2 n d)
    = Spec.encoding (args V) n d := by
  have e : ∀ (f : Fin 64) (y x : Fin 4) (kh kw : Fin 3),
      Spec.features (args V) n f (⟨4 * y.1 + kh.1, by omega⟩ : Fin 16) (⟨4 * x.1 + kw.1, by omega⟩ : Fin 16)
      = (res_main_v45 V : Vec Ideal S512x64x3x4x16 .f32) (ix5 n f kh y (⟨4 * x.1 + kw.1, by omega⟩ : Fin 16)) := fun f y x kh kw => by
    rw [rows2, features]
  unfold res_main_v61
  unfold Spec.encoding Spec.enc Spec.conv2
  simp only [e]
  generalize (res_main_v45 V : Vec Ideal S512x64x3x4x16 .f32) = u
  pointwise
  refine congrArg₂ Ideal.div (Finset.sum_congr rfl fun y _ => Finset.sum_congr rfl fun x _ => ?_) rfl
  rw [dot2]
  refine congrArg (fun t : EReal => max t 0) (congrArg (fun t : EReal => t + _) ?_)
  rw [Finset.sum_comm]
  refine Finset.sum_congr rfl fun kh _ => ?_
  rw [Finset.sum_comm]
  refine Finset.sum_congr rfl fun kw _ => Finset.sum_congr rfl fun f _ => ?_
  refine (mul_comm _ _).trans (congrArg₂ (· * ·) ?_ rfl)
  fin_cases kw <;> pointwise <;> simp only [Nat.add_comm]

end Cert.RefConv
end
-- ==== Proof.RefSim.lean ====
/-
  The reference's unit rows and their cosines, entry by entry.
-/
module

public import proofs.«01_k».proof.Proof.RefConv
public import proofs.«01_k».proof.Proof.Gen.ReferenceIdeal.Run
public import Idealize.ShloMosaic.Lib.Pipeline.ValueKit
public import Idealize.ShloMosaic.Lib.Pointwise

@[expose] public section

set_option maxRecDepth 16384

noncomputable section

open Cert.ReferenceIdeal Cert.ReferenceIdeal.Gen Cert.ReferenceIdeal.Value Idealize.ShloMosaic Idealize.ShloMosaic.TcCoe Idealize.SL.Sem

namespace Cert.RefSim

variable (V : Valuation τ sig (Elt Ideal))

/-- The encodings, in groups of eight. -/
theorem grouped (b : Fin 64) (i : Fin 8) (d : Fin 512) : (res_main_v62 V : Vec Ideal S64x8x512 .f32) (ix3 b i d)
    = Spec.encoding (RefConv.args V) (Spec.flat b i) d := by
  rw [← RefConv.encoding]
  unfold res_main_v62 Spec.flat
  generalize (res_main_v61 V : Vec Ideal S512x512 .f32) = u
  pointwise
  simp only [Nat.mul_comm b.1 8]

/-- The unit rows. -/
theorem unit (b : Fin 64) (i : Fin 8) (d : Fin 512) : (res_main_v67 V : Vec Ideal S64x8x512 .f32) (ix3 b i d)
    = Spec.unit (Spec.encoding (RefConv.args V)) b i d := by
  unfold res_main_v67 Spec.unit
  simp only [← grouped]
  generalize (res_main_v62 V : Vec Ideal S64x8x512 .f32) = u
  pointwise

/-- The cosines. -/
theorem sim (b : Fin 64) (i j : Fin 8) : (res_main_v69 V : Vec Ideal S64x8x8 .f32) (ix3 b i j)
    = Spec.sim (Spec.encoding (RefConv.args V)) b i j := by
  unfold res_main_v69 Spec.sim
  simp only [← unit]
  generalize (res_main_v67 V : Vec Ideal S64x8x512 .f32) = u
  pointwise

end Cert.RefSim
end
-- ==== Proof.Top.lean ====
/-
  The three greatest of eight values, read off a stable sort: they are the entries of rank below three.
-/
module

public import proofs.«01_k».proof.Proof.Spec
public import Idealize.ShloMosaic.Lib.SortFacts

@[expose] public section

noncomputable section

namespace Cert.Top

open Idealize.ShloMosaic

/-- The greater value first. -/
def greater (s : Fin 8 → EReal) (a b : Fin 8) : Bool := decide (s b < s a)

/-- The greater value first, and equal values in the order of their places. -/
def ahead (s : Fin 8 → EReal) (a b : Fin 8) : Bool := decide (s b < s a ∨ (s a = s b ∧ a < b))

theorem ahead_iff (s : Fin 8 → EReal) (a b : Fin 8) : ahead s a b = true ↔ s b < s a ∨ (s a = s b ∧ a < b) := by
  simp [ahead]

/-- The place put at position `k` by the stable sort. -/
def place (s : Fin 8 → EReal) (k : Fin 8) : Fin 8 := sortedFrom (greater s) k

/-- On a list in increasing order the stable sort does not see the difference between the two relations. -/
theorem stable_ahead (s : Fin 8 → EReal) (l : List (Fin 8)) (hl : l.Pairwise (· < ·)) :
    stableSort (greater s) l = stableSort (ahead s) l := by
  induction l with
  | nil => rfl
  | cons a l ih =>
    rw [List.pairwise_cons] at hl
    unfold stableSort
    rw [ih hl.2]
    refine insertBefore_congr _ _ a _ fun b hb => ?_
    have h : a < b := hl.1 b ((perm_stableSort _ l).mem_iff.mp hb)
    unfold greater ahead
    refine decide_eq_decide.mpr ⟨Or.inl, fun q => q.resolve_right fun q => ?_⟩
    exact absurd (q.2.trans h) (lt_irrefl b)

theorem place_eq (s : Fin 8 → EReal) : place s = sortedFrom (ahead s) := by
  funext k
  have h : sortPositions 8 (greater s) = sortPositions 8 (ahead s) := stable_ahead s _ (List.pairwise_lt_finRange 8)
  unfold place sortedFrom
  rw [List.get_of_eq h]
  rfl

theorem place_injective (s : Fin 8 → EReal) : Function.Injective (place s) := sortedFrom_injective _

/-- The relation is irreflexive both ways round. -/
theorem ahead_asymm (s : Fin 8 → EReal) (a b : Fin 8) (h : ahead s a b = true) : ahead s b a = false := by
  rw [ahead_iff] at h
  rw [Bool.eq_false_iff, ne_eq, ahead_iff]
  rintro (q | ⟨q, r⟩) <;> rcases h with h | ⟨h, h'⟩
  · exact lt_asymm h q
  · exact absurd (h ▸ q) (lt_irrefl _)
  · exact absurd (q ▸ h) (lt_irrefl _)
  · exact lt_asymm h' r

/-- Two different places are in one order or the other. -/
theorem ahead_total (s : Fin 8 → EReal) (a b : Fin 8) (hab : a ≠ b) (h : ahead s b a = false) : ahead s a b = true := by
  rw [Bool.eq_false_iff, ne_eq, ahead_iff] at h
  rw [ahead_iff]
  push Not at h
  rcases lt_or_eq_of_le h.1 with q | q
  · exact Or.inl q
  · exact Or.inr ⟨q.symm, lt_of_le_of_ne (h.2 q) hab⟩

theorem ahead_trans (s : Fin 8 → EReal) (a b c : Fin 8) (h : ahead s a b = false) (h' : ahead s b c = false) : ahead s a c = false := by
  rw [Bool.eq_false_iff, ne_eq, ahead_iff] at h h' ⊢
  push Not at h h' ⊢
  refine ⟨h.1.trans h'.1, fun q => ?_⟩
  have e : s a = s b := le_antisymm h.1 (q ▸ h'.1)
  exact (h'.2 (e ▸ q)).trans (h.2 e)

/-- The places come in the order of the relation. -/
theorem ahead_place (s : Fin 8 → EReal) (i j : Fin 8) : ahead s (place s i) (place s j) = true ↔ i < j := by
  have key : ∀ i j, i < j → ahead s (place s j) (place s i) = false := fun i j h => by
    rw [place_eq]
    exact sortedFrom_noInversion (ahead s) (ahead s) (ahead_asymm s) (fun _ _ q => q) (ahead_trans s) i j h
  constructor
  · intro h
    by_contra q
    rcases lt_or_eq_of_le (not_lt.mp q) with q | q
    · rw [key _ _ q] at h
      exact absurd h (by decide)
    · rw [q, ahead_iff] at h
      rcases h with h | h
      · exact lt_irrefl _ h
      · exact lt_irrefl _ h.2
  · intro h
    exact ahead_total s _ _ (fun q => h.ne (place_injective s q)) (key i j h)

/-- Position `k` holds the place of rank `k`. -/
theorem rank_place (s : Fin 8 → EReal) (k : Fin 8) : Spec.rank s (place s k) = k.1 := by
  have h : (Finset.univ.filter fun i : Fin 8 => s (place s k) < s i ∨ (s i = s (place s k) ∧ i < place s k))
      = (Finset.Iio k).image (place s) := by
    ext i
    obtain ⟨i, rfl⟩ := sortedFrom_surjective (greater s) i
    change _ ↔ place s i ∈ _
    rw [Finset.mem_filter, (place_injective s).mem_finset_image, Finset.mem_Iio, ← ahead_place s i k, ahead_iff]
    simp [place]
  unfold Spec.rank
  rw [h, Finset.card_image_of_injective _ (place_injective s), Fin.card_Iio]

/-- The sum over the first three positions is the sum over the places of rank below three. -/
theorem sum_first (s : Fin 8 → EReal) (h : Fin 8 → EReal) :
    h (place s 0) + h (place s 1) + h (place s 2) = ∑ j : Fin 8, if Spec.rank s j < 3 then h j else 0 := by
  refine Eq.trans ?_ (Equiv.sum_comp (Equiv.ofBijective (place s) ⟨sortedFrom_injective _, sortedFrom_surjective _⟩) _)
  change _ = ∑ k, if Spec.rank s (place s k) < 3 then h (place s k) else 0
  simp only [rank_place, Fin.sum_univ_eight]
  norm_num

/-- The average with the weights is a third of the sum over the first three positions. -/
theorem weighted (s : Fin 8 → EReal) (h : Fin 8 → EReal) :
    ∑ j : Fin 8, (if Spec.rank s j < 3 then ((1 / 3 : ℝ) : EReal) else 0) * h j
      = (h (place s 0) + h (place s 1) + h (place s 2)) * ((1 / 3 : ℝ) : EReal) := by
  have p : (0 : EReal) ≤ ((1 / 3 : ℝ) : EReal) := by exact_mod_cast (by norm_num : (0 : ℝ) ≤ 1 / 3)
  have q : ((1 / 3 : ℝ) : EReal) ≠ ⊤ := EReal.coe_ne_top _
  rw [mul_comm, EReal.left_distrib_of_nonneg_of_ne_top p q, EReal.left_distrib_of_nonneg_of_ne_top p q,
    sum_first s fun j => ((1 / 3 : ℝ) : EReal) * h j]
  refine Finset.sum_congr rfl fun j _ => ?_
  split
  · rfl
  · exact zero_mul _

end Cert.Top

end
-- ==== Proof.RefEdges.lean ====
/-
  The reference's edges: for each row, the three rows of its group closest to it.
-/
module

public import proofs.«01_k».proof.Proof.RefSim
public import proofs.«01_k».proof.Proof.Top
public import proofs.«01_k».proof.Proof.Gen.ReferenceIdeal.Run
public import Idealize.ShloMosaic.Lib.Pipeline.ValueKit
public import Idealize.ShloMosaic.Lib.Pointwise

@[expose] public section

set_option maxRecDepth 16384

noncomputable section

open Cert.ReferenceIdeal Cert.ReferenceIdeal.Gen Cert.ReferenceIdeal.Value Idealize.ShloMosaic Idealize.ShloMosaic.TcCoe Idealize.SL.Sem

namespace Cert.RefEdges

variable (V : Valuation τ sig (Elt Ideal))

/-- The indices of the three greatest of each row. -/
theorem topK (x : Vec Ideal S64x8x8 .f32) (b : Fin 64) (i : Fin 8) (k : Fin 3) :
    (Host.topK S64x8x3 2 (FloatOps.cmpfTotal (F := Ideal) (φ := .f32) .gt) x sliceFits_S64x8x8_S64x8x3).2 (ix3 b i k)
      = BitVec.ofNat 32 (Top.place (fun j => x (ix3 b i j)) (⟨k.1, by omega⟩ : Fin 8)).1 := by
  have a : ∀ (q : Fin 8) (l : Fin 8), Shape.Idx.along (s := S64x8x8) (ix3 b i q) 2 l = ix3 b i l := fun q l => by
    funext r
    fin_cases r <;> rfl
  have e : extractStridedSlice S64x8x3 (fun _ => 0) (Host.sort2 S64x8x8 2 (fun l r => FloatOps.cmpfTotal (F := Ideal) (φ := .f32) .gt l.1 r.1) x
      (iotaInDim S64x8x8 32 2)).2 sliceFits_S64x8x8_S64x8x3 (ix3 b i k)
      = (Host.sort2 S64x8x8 2 (fun l r => FloatOps.cmpfTotal (F := Ideal) (φ := .f32) .gt l.1 r.1) x
      (iotaInDim S64x8x8 32 2)).2 (ix3 b i (⟨k.1, by omega⟩ : Fin 8)) := by
    pointwise
  refine Eq.trans ?_ (e.trans ?_)
  · rfl
  · rw [Host.sort2_eq_sortBy]
    change iotaInDim S64x8x8 32 2 (Shape.Idx.along (s := S64x8x8) (ix3 b i (⟨k.1, by omega⟩ : Fin 8)) 2
      (sortedFrom (fun l l' : Fin 8 => FloatOps.cmpfTotal (F := Ideal) (φ := .f32) .gt
        (x (Shape.Idx.along (s := S64x8x8) (ix3 b i (⟨k.1, by omega⟩ : Fin 8)) 2 l))
        (x (Shape.Idx.along (s := S64x8x8) (ix3 b i (⟨k.1, by omega⟩ : Fin 8)) 2 l')) == 1#1) (⟨k.1, by omega⟩ : Fin 8))) = _
    simp only [a]
    have g : (fun l l' : Fin 8 => FloatOps.cmpfTotal (F := Ideal) (φ := .f32) .gt (x (ix3 b i l)) (x (ix3 b i l')) == 1#1)
        = Top.greater (fun j => x (ix3 b i j)) := by
      funext l l'
      change (BitVec.ofBool (decide (x (ix3 b i l') < x (ix3 b i l))) == 1#1) = decide (x (ix3 b i l') < x (ix3 b i l))
      cases decide (x (ix3 b i l') < x (ix3 b i l)) <;> rfl
    rw [g]
    rfl

/-- A word sum of small numbers is the word of the sum. -/
theorem word (a b : ℕ) : IntOp.addi (BitVec.ofNat 32 a) (IntOp.muli (BitVec.ofNat 32 b) 8#32) = BitVec.ofNat 32 (8 * b + a) := by
  change BitVec.ofNat 32 a + BitVec.ofNat 32 b * BitVec.ofNat 32 8 = _
  rw [← BitVec.ofNat_mul, ← BitVec.ofNat_add, Nat.add_comm, Nat.mul_comm]

/-- The row edge `e` starts from: the `e % 3`-th of the three closest to the row it ends at. -/
def source (e : Fin 1536) : Fin 512 :=
  Spec.flat ⟨e.1 / 24, by omega⟩ (Top.place (Spec.sim (Spec.encoding (RefConv.args V)) ⟨e.1 / 24, by omega⟩ ⟨e.1 % 24 / 3, by omega⟩)
    ⟨e.1 % 24 % 3, by omega⟩)

/-- The row edge `e` ends at. -/
def target (e : Fin 1536) : Fin 512 := ⟨e.1 / 3, by omega⟩

/-- The rows the edges start from. -/
theorem start (e : Fin 1536) : (res_main_v87 V : IVec S1536 32) (ix1 e)
    = BitVec.ofNat 32 (source V e).1 := by
  have t := fun (b : Fin 64) (i : Fin 8) (k : Fin 3) => topK (res_main_v69 V) b i k
  simp only [RefSim.sim] at t
  unfold source Spec.flat
  unfold res_main_v87 res_main_v85
  generalize (Host.topK S64x8x3 2 (FloatOps.cmpfTotal .gt) (res_main_v69 V) sliceFits_S64x8x8_S64x8x3).2 = u at t ⊢
  pointwise
  rw [t, word]

/-- The rows the edges end at. -/
theorem stop (e : Fin 1536) : (res_main_v89 V : IVec S1536 32) (ix1 e)
    = BitVec.ofNat 32 (target e).1 := by
  unfold res_main_v89 res_main_v85
  generalize (Host.topK S64x8x3 2 (FloatOps.cmpfTotal .gt) (res_main_v69 V) sliceFits_S64x8x8_S64x8x3).2 = u
  pointwise
  rw [word]
  unfold target
  refine congrArg (BitVec.ofNat 32) ?_
  simp only []
  omega

end Cert.RefEdges
end
-- ==== Proof.RefScatter.lean ====
/-
  What the reference's scatters add up: for each row, the updates of its three edges.
-/
module

public import proofs.«01_k».proof.Proof.RefEdges
public import proofs.«01_k».proof.Proof.Gen.ReferenceIdeal.Run
public import Idealize.ShloMosaic.Lib.Pipeline.ValueKit
public import Idealize.ShloMosaic.Lib.Pointwise
public import Idealize.ShloMosaic.Lib.Routing.Ops
public import Idealize.ShloMosaic.Lib.Routing.OpsPair

@[expose] public section

set_option maxRecDepth 16384

noncomputable section

open Cert.ReferenceIdeal Cert.ReferenceIdeal.Gen Cert.ReferenceIdeal.Value Idealize.ShloMosaic Idealize.ShloMosaic.TcCoe Idealize.SL.Sem

namespace Cert.RefScatter

/-- A small number's word, read signed, is the number. -/
theorem toInt_small (r : Fin 512) : (BitVec.ofNat 32 r.1).toInt = (r.1 : Int) := by
  have := r.2
  rw [BitVec.toInt_eq_toNat_of_lt] <;> simp only [BitVec.toNat_ofNat] <;> omega

/-- A column of indices: a negative index would count from the end, and none is negative. -/
def column (v : IVec S1536 32) : IVec S1536x1 32 :=
  broadcastInDim S1536x1 ![0] bcast_S1536_S1536x1_0 (select (cmpi .slt v (broadcastInDim S1536 ![] bcast_S_S1536 (constantI S_ 32 0#32)))
    (addi v (broadcastInDim S1536 ![] bcast_S_S1536 (constantI S_ 32 512#32))) v)

theorem column_at (v : IVec S1536 32) (r : Fin 1536 → Fin 512) (hv : ∀ e, v (ix1 e) = BitVec.ofNat 32 (r e).1) (e : Fin 1536) :
    column v (ix2 e 0) = BitVec.ofNat 32 (r e).1 := by
  unfold column
  pointwise
  rw [hv]
  have h : IntOp.cmpi .slt (BitVec.ofNat 32 (r e).1) 0#32 = 0#1 := by
    have q := toInt_small (r e)
    change BitVec.ofBool (BitVec.slt (BitVec.ofNat 32 (r e).1) 0#32) = 0#1
    rw [BitVec.slt, q]
    exact congrArg BitVec.ofBool (decide_eq_false (by simp))
  rw [h]
  rfl

abbrev d1 := scatter_S512x512_S1536x1_S1536x512_1_0_0_1
abbrev d2 := scatter_S512_S1536x1_S1536_n_0_0_1

/-- Update row `e` lands on the row its index names. -/
theorem lands1 (idx : IVec S1536x1 32) (e : Fin 1536) (c n d : Fin 512) :
    d1.resultIdx? (ix2 e c : S1536x512.Idx) idx = some (ix2 n d) ↔ (idx (ix2 e 0)).toInt = n.1 ∧ c = d := by
  rw [Routing.resultIdx?_eq_some]
  have s0 : d1.start (ix2 e c : S1536x512.Idx) idx 0 = (idx (ix2 e 0)).toInt := by
    refine congrArg (fun q => (idx q).toInt) (?_ : d1.siIdx (ix2 e c : S1536x512.Idx) ⟨0, by decide⟩ = ix2 e 0)
    funext q; fin_cases q <;> rfl
  have s1 : d1.start (ix2 e c : S1536x512.Idx) idx 1 = 0 := rfl
  have w0 : d1.window (ix2 e c : S1536x512.Idx) 0 = 0 := rfl
  have w1 : d1.window (ix2 e c : S1536x512.Idx) 1 = c.1 := rfl
  constructor
  · intro q
    have q0 := q 0; have q1 := q 1
    rw [s0, w0] at q0; rw [s1, w1] at q1
    refine ⟨by simpa using q0, Fin.ext ?_⟩
    have : ((c.1 : Int)) = (d.1 : Int) := by simpa using q1
    omega
  · rintro ⟨q0, rfl⟩ q
    fin_cases q
    · show d1.start _ idx 0 + (d1.window _ 0 : Int) = (n.1 : Int)
      rw [s0, w0, q0]; simp
    · show d1.start _ idx 1 + (d1.window _ 1 : Int) = (c.1 : Int)
      rw [s1, w1]; simp

/-- Update `e` lands on the place its index names. -/
theorem lands2 (idx : IVec S1536x1 32) (e : Fin 1536) (n : Fin 512) :
    d2.resultIdx? (ix1 e : S1536.Idx) idx = some (ix1 n) ↔ (idx (ix2 e 0)).toInt = n.1 := by
  rw [Routing.resultIdx?_eq_some]
  have s0 : d2.start (ix1 e : S1536.Idx) idx 0 = (idx (ix2 e 0)).toInt := by
    refine congrArg (fun q => (idx q).toInt) (?_ : d2.siIdx (ix1 e : S1536.Idx) ⟨0, by decide⟩ = ix2 e 0)
    funext q; fin_cases q <;> rfl
  have w0 : d2.window (ix1 e : S1536.Idx) 0 = 0 := rfl
  constructor
  · intro q
    have q0 := q 0
    rw [s0, w0] at q0
    simpa using q0
  · intro q0 q
    fin_cases q
    show d2.start _ idx 0 + (d2.window _ 0 : Int) = (n.1 : Int)
    rw [s0, w0, q0]; simp

/-- The edge number `k` that ends at row `n`. -/
def edge (n : Fin 512) (k : Fin 3) : Fin 1536 := ⟨3 * n.1 + k.1, by omega⟩

/-- The edges that end at row `n` are three. -/
theorem sum_edges (n : Fin 512) (f : Fin 1536 → EReal) :
    (∑ e, if RefEdges.target e = n then f e else 0) = f (edge n 0) + f (edge n 1) + f (edge n 2) := by
  refine (Equiv.sum_comp (finProdFinEquiv (m := 512) (n := 3)) (fun e : Fin 1536 => if RefEdges.target e = n then f e else 0)).symm.trans ?_
  rw [Fintype.sum_prod_type, Finset.sum_eq_single n]
  · have t : ∀ k : Fin 3, (finProdFinEquiv (m := 512) (n := 3) (n, k) : Fin 1536) = edge n k := fun k => Fin.ext (Nat.add_comm ..)
    have t' : ∀ k : Fin 3, RefEdges.target (edge n k) = n := fun k => Fin.ext (by simp only [RefEdges.target, edge]; omega)
    simp only [t, t', if_true, Fin.sum_univ_three]
  · intro m _ hm
    refine Finset.sum_eq_zero fun k _ => if_neg fun q => hm ?_
    rw [← q]
    refine Fin.ext ?_
    show m.1 = (k.1 + 3 * m.1) / 3
    omega
  · exact fun q => absurd (Finset.mem_univ n) q

/-- A scatter of rows onto zeros: row `n` is the sum of its three edges' rows. -/
theorem rows (idx : IVec S1536x1 32) (hidx : ∀ e, idx (ix2 e 0) = BitVec.ofNat 32 (RefEdges.target e).1)
    (x : Vec Ideal S512x512 .f32) (upd : Vec Ideal S1536x512 .f32) (hx : ∀ q, x q = (0 : EReal)) (n d : Fin 512) :
    (Host.scatterAdd (F := Ideal) (φ := .f32) d1 x idx upd : Vec Ideal S512x512 .f32) (ix2 n d)
      = (upd (ix2 (edge n 0) d) + upd (ix2 (edge n 1) d) + upd (ix2 (edge n 2) d) : EReal) := by
  change x (ix2 n d) + ∑ j ∈ Finset.univ.filter (fun j => d1.resultIdx? j idx = some (ix2 n d)), upd j = _
  rw [hx, zero_add, Finset.sum_filter, ← sum_edges n fun e => upd (ix2 e d)]
  refine (sum_idx2 _).trans (Finset.sum_congr rfl fun e _ => ?_)
  have c : ∀ c : Fin 512, d1.resultIdx? (ix2 e c : S1536x512.Idx) idx = some (ix2 n d) ↔ (c = d ∧ RefEdges.target e = n) := fun c => by
    rw [lands1, hidx, toInt_small]
    constructor
    · rintro ⟨q, rfl⟩; exact ⟨rfl, Fin.ext (by omega)⟩
    · rintro ⟨rfl, q⟩; exact ⟨by rw [q], rfl⟩
  simp only [c, ite_and]
  rw [Finset.sum_ite_eq' Finset.univ d]
  simp

/-- A scatter of numbers onto zeros: place `n` is the sum of its three edges' numbers. -/
theorem numbers (idx : IVec S1536x1 32) (hidx : ∀ e, idx (ix2 e 0) = BitVec.ofNat 32 (RefEdges.target e).1)
    (x : Vec Ideal S512 .f32) (upd : Vec Ideal S1536 .f32) (hx : ∀ q, x q = (0 : EReal)) (n : Fin 512) :
    (Host.scatterAdd (F := Ideal) (φ := .f32) d2 x idx upd : Vec Ideal S512 .f32) (ix1 n)
      = (upd (ix1 (edge n 0)) + upd (ix1 (edge n 1)) + upd (ix1 (edge n 2)) : EReal) := by
  change x (ix1 n) + ∑ j ∈ Finset.univ.filter (fun j => d2.resultIdx? j idx = some (ix1 n)), upd j = _
  rw [hx, zero_add, Finset.sum_filter, ← sum_edges n fun e => upd (ix1 e)]
  refine (sum_idx1 _).trans (Finset.sum_congr rfl fun e _ => ?_)
  have c : d2.resultIdx? (ix1 e : S1536.Idx) idx = some (ix1 n) ↔ RefEdges.target e = n := by
    rw [lands2, hidx, toInt_small]
    constructor
    · intro q; exact Fin.ext (by omega)
    · intro q; rw [q]
  simp only [c]

end Cert.RefScatter
end
-- ==== Proof.RefLayers.lean ====
/-
  The reference's three layers and its scores: the network's.
-/
module

public import proofs.«01_k».proof.Proof.RefScatter
public import proofs.«01_k».proof.Proof.Gen.ReferenceIdeal.Run
public import Idealize.ShloMosaic.Lib.Pipeline.ValueKit
public import Idealize.ShloMosaic.Lib.Pointwise
public import Idealize.ShloMosaic.Lib.Routing.Ops
public import Idealize.ShloMosaic.Lib.Routing.OpsPair

@[expose] public section

set_option maxRecDepth 16384

noncomputable section

open Cert.ReferenceIdeal Cert.ReferenceIdeal.Gen Cert.ReferenceIdeal.Value Idealize.ShloMosaic Idealize.ShloMosaic.TcCoe Idealize.SL.Sem

namespace Cert.RefLayers

variable (V : Valuation τ sig (Elt Ideal))

/-- The rows averaged over their edges, as the reference does it: gather, scatter, and divide by the edges' count. -/
def average (dst src : IVec S1536 32) (h : Vec Ideal S512x512 .f32) : Vec Ideal S512x512 .f32 :=
  Host.divf (F := Ideal) (φ := .f32)
    (Host.scatterAdd (F := Ideal) (φ := .f32) RefScatter.d1 (broadcastInDim S512x512 ![] bcast_S_S512x512 (constant (F := Ideal) S_ .f32 0x00000000#32))
      (RefScatter.column dst) (Host.gather gather_S512x512_S1536x1_S1536x512_1_0_n_n_0_1_1512 h (RefScatter.column src)))
    (broadcastInDim S512x512 ![0, 1] bcast_S512x1_S512x512_0_1 (broadcastInDim S512x1 ![0] bcast_S512_S512x1_0
      (maximumf (F := Ideal) (φ := .f32) (Host.scatterAdd (F := Ideal) (φ := .f32) RefScatter.d2
          (broadcastInDim S512 ![] bcast_S_S512 (constant (F := Ideal) S_ .f32 0x00000000#32))
          (RefScatter.column dst) (broadcastInDim S1536 ![] bcast_S_S1536 (constant (F := Ideal) S_ .f32 0x3F800000#32)))
        (broadcastInDim S512 ![] bcast_S_S512 (constant (F := Ideal) S_ .f32 0x3F800000#32)))))

/-- Each row ends three edges. -/
theorem three : max ((1 : EReal) + 1 + 1) 1 = ((3 : ℝ) : EReal) := by
  rw [← EReal.coe_one, ← EReal.coe_add, ← EReal.coe_add, max_eq_left (EReal.coe_le_coe_iff.2 (by norm_num))]
  norm_num

/-- The literal one. -/
theorem one : Ideal.ofBits .f32 0x3F800000#32 = (1 : EReal) := by
  rw [← EReal.coe_one]
  simp [Ideal.ofBits, Ideal.ieee, -EReal.coe_mul]
  norm_num

/-- Dividing by three is taking a third. -/
theorem div_three (x : EReal) : Ideal.div x ((3 : ℝ) : EReal) = x * ((1 / 3 : ℝ) : EReal) := by
  unfold Ideal.div
  rw [if_neg (by norm_cast), ← EReal.coe_inv]
  norm_num

/-- The row that edge `k` of row `n` starts from. -/
theorem source_edge (n : Fin 512) (k : Fin 3) : RefEdges.source V (RefScatter.edge n k)
    = Spec.flat ⟨n.1 / 8, by omega⟩ (Top.place (Spec.sim (Spec.encoding (RefConv.args V)) ⟨n.1 / 8, by omega⟩ ⟨n.1 % 8, by omega⟩)
      ⟨k.1, by omega⟩) := by
  have a : (3 * n.1 + k.1) / 24 = n.1 / 8 := by omega
  have b : (3 * n.1 + k.1) % 24 / 3 = n.1 % 8 := by omega
  have c : (3 * n.1 + k.1) % 24 % 3 = k.1 := by omega
  unfold RefEdges.source RefScatter.edge
  simp only [a, b, c]

/-- The averages, entry by entry. -/
theorem average_at (h : Vec Ideal S512x512 .f32) (n d : Fin 512) : average (res_main_v89 V) (res_main_v87 V) h (ix2 n d)
    = Spec.agg (Spec.weights (RefConv.args V)) (fun n d => h (ix2 n d)) n d := by
  have ct := RefScatter.column_at (res_main_v89 V) RefEdges.target (RefEdges.stop V)
  have cs := RefScatter.column_at (res_main_v87 V) (RefEdges.source V) (RefEdges.start V)
  unfold Spec.agg Spec.weights Spec.adj
  rw [Top.weighted (Spec.sim (Spec.encoding (RefConv.args V)) ⟨n.1 / 8, by omega⟩ ⟨n.1 % 8, by omega⟩)
    (fun j => h (ix2 (Spec.flat ⟨n.1 / 8, by omega⟩ j) d)), ← div_three, ← three]
  have g : ∀ e : Fin 1536, Host.gather gather_S512x512_S1536x1_S1536x512_1_0_n_n_0_1_1512 h (RefScatter.column (res_main_v87 V)) (ix2 e d)
      = h (ix2 (RefEdges.source V e) d) := fun e =>
    Routing.gather_row gather_S512x512_S1536x1_S1536x512_1_0_n_n_0_1_1512 rfl rfl rfl rfl rfl h _ e d _ (cs e) (by norm_num)
  have r := RefScatter.rows (RefScatter.column (res_main_v89 V)) ct
    (broadcastInDim S512x512 ![] bcast_S_S512x512 (constant (F := Ideal) S_ .f32 0x00000000#32))
    (Host.gather gather_S512x512_S1536x1_S1536x512_1_0_n_n_0_1_1512 h (RefScatter.column (res_main_v87 V)))
    (fun q => by idx_vars q; pointwise) n d
  have c := (RefScatter.numbers (RefScatter.column (res_main_v89 V)) ct
    (broadcastInDim S512 ![] bcast_S_S512 (constant (F := Ideal) S_ .f32 0x00000000#32))
    (broadcastInDim S1536 ![] bcast_S_S1536 (constant (F := Ideal) S_ .f32 0x3F800000#32))
    (fun q => by idx_vars q; pointwise) n).trans
      (congrArg₂ (fun s t : EReal => s + t) (congrArg₂ (fun s t : EReal => s + t) one one) one)
  rw [g, g, g, source_edge, source_edge, source_edge] at r
  unfold average
  generalize Host.scatterAdd (F := Ideal) (φ := .f32) RefScatter.d1 _ _ _ = R at r ⊢
  generalize Host.scatterAdd (F := Ideal) (φ := .f32) RefScatter.d2 _ _ _ = C at c ⊢
  pointwise
  exact congrArg₂ Ideal.div r (congrArg (fun t : EReal => max t 1) c)

/-- One layer before its activation. -/
def layer (dst src : IVec S1536 32) (h wl wr : Vec Ideal S512x512 .f32) (b : Vec Ideal S512 .f32) : Vec Ideal S512x512 .f32 :=
  addf (F := Ideal) (φ := .f32) (addf (F := Ideal) (φ := .f32)
      (Host.dotGeneral (F := Ideal) (φ₁ := .f32) (φ₂ := .f32) dot_S512x512_S512x512_S512x512_1_0_0_1_n_n none (average dst src h)
        (transpose S512x512 [1, 0] wl transposes_S512x512_S512x512_1_0))
      (Host.dotGeneral (F := Ideal) (φ₁ := .f32) (φ₂ := .f32) dot_S512x512_S512x512_S512x512_1_0_0_1_n_n none h
        (transpose S512x512 [1, 0] wr transposes_S512x512_S512x512_1_0)))
    (broadcastInDim S512x512 ![0, 1] bcast_S1x512_S512x512_0_1 (broadcastInDim S1x512 ![1] bcast_S512_S1x512_1 b))

theorem layer_at (h wl wr : Vec Ideal S512x512 .f32) (b : Vec Ideal S512 .f32) (n o : Fin 512) :
    layer (res_main_v89 V) (res_main_v87 V) h wl wr b (ix2 n o)
      = Spec.sage (Spec.weights (RefConv.args V)) (fun n d => h (ix2 n d)) (fun o d => wl (ix2 o d)) (fun o d => wr (ix2 o d))
        (fun o => b (ix1 o)) n o := by
  unfold Spec.sage layer
  simp only [← average_at]
  generalize average (res_main_v89 V) (res_main_v87 V) h = u
  pointwise

/-- The leaky rectifier. -/
def rectify (x : Vec Ideal S512x512 .f32) : Vec Ideal S512x512 .f32 :=
  select (cmpf (F := Ideal) (φ := .f32) .oge x (broadcastInDim S512x512 ![] bcast_S_S512x512 (constant (F := Ideal) S_ .f32 0x00000000#32))) x
    (mulf (F := Ideal) (φ := .f32) (broadcastInDim S512x512 ![] bcast_S_S512x512 (id (constant (F := Ideal) S_ .f32 0x3E4CCCCD#32))) x)

theorem rectify_at (x : Vec Ideal S512x512 .f32) (n o : Fin 512) : rectify x (ix2 n o) = Spec.leaky (x (ix2 n o)) := by
  unfold rectify Spec.leaky
  pointwise
  rfl

/-- The scores, from the last layer's rows. -/
def scores (h : Vec Ideal S512x512 .f32) (w : Vec Ideal S2x512 .f32) (b : Vec Ideal S2 .f32) : Vec Ideal S64x2 .f32 :=
  addf (F := Ideal) (φ := .f32) (Host.dotGeneral (F := Ideal) (φ₁ := .f32) (φ₂ := .f32) dot_S64x512_S512x2_S64x2_1_0_0_1_n_n none
      (Host.divf (F := Ideal) (φ := .f32) (Host.reduceAdd (F := Ideal) (φ := .f32) (shapeCast S64x8x512 h shapeCasts_S512x512_S64x8x512)
          (constant (F := Ideal) S_ .f32 0x00000000#32) reducesTo_S64x8x512_S64x512_d1 h_S_)
        (broadcastInDim S64x512 ![] bcast_S_S64x512 (constant (F := Ideal) S_ .f32 0x41000000#32)))
      (transpose S512x2 [1, 0] w transposes_S2x512_S512x2_1_0))
    (broadcastInDim S64x2 ![0, 1] bcast_S1x2_S64x2_0_1 (broadcastInDim S1x2 ![1] bcast_S2_S1x2_1 b))

theorem scores_at (h : Vec Ideal S512x512 .f32) (w : Vec Ideal S2x512 .f32) (b : Vec Ideal S2 .f32) (g : Fin 64) (o : Fin 2) :
    scores h w b (ix2 g o) = Spec.head (fun n d => h (ix2 n d)) (fun o d => w (ix2 o d)) (fun o => b (ix1 o)) g o := by
  unfold scores Spec.head Spec.flat
  pointwise
  simp only [Nat.mul_comm g.1 8]

/-- The rows after the first layer. -/
theorem rows1 (n o : Fin 512) : (res_main_v127 V : Vec Ideal S512x512 .f32) (ix2 n o) = Spec.layer1 (RefConv.args V) n o := by
  have e : (res_main_v127 V : Vec Ideal S512x512 .f32) = rectify (layer (res_main_v89 V) (res_main_v87 V) (res_main_v61 V)
      (V main_arg5) (V main_arg6) (V main_arg7)) := rfl
  rw [e, rectify_at, layer_at]
  simp only [RefConv.encoding]
  rfl

/-- The rows after the second layer. -/
theorem rows2 (n o : Fin 512) : (res_main_v165 V : Vec Ideal S512x512 .f32) (ix2 n o) = Spec.layer2 (RefConv.args V) n o := by
  have e : (res_main_v165 V : Vec Ideal S512x512 .f32) = rectify (layer (res_main_v89 V) (res_main_v87 V) (res_main_v127 V)
      (V main_arg8) (V main_arg9) (V main_arg10)) := rfl
  rw [e, rectify_at, layer_at]
  simp only [rows1]
  rfl

/-- The result: the network's scores. -/
theorem result (g : Fin 64) (o : Fin 2) :
    scores (layer (res_main_v89 V) (res_main_v87 V) (res_main_v165 V) (V main_arg11) (V main_arg12) (V main_arg13))
      (V main_arg14) (V main_arg15) (ix2 g o) = Spec.net (RefConv.args V) g o := by
  rw [scores_at]
  simp only [layer_at, rows2]
  rfl

end Cert.RefLayers
end
-- ==== Proof.Equal.lean ====
/-
  The equation: from the same arguments the kernel's program and the reference's end with the same scores.
-/
module

public import proofs.«01_k».proof.Proof.Layers
public import proofs.«01_k».proof.Proof.RefLayers

@[expose] public section

set_option maxRecDepth 16384

noncomputable section

open Idealize.ShloMosaic Idealize.ShloMosaic.TcCoe Idealize.SL.Sem

namespace Cert.Equal

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The two memories hold the same arguments on device `c`. -/
def Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)
  ∧ m' ((c.tc : Thread ReferenceIdeal.nD ReferenceIdeal.τ).loc ReferenceIdeal.main_arg10) = m ((c.tc : Thread KernelIdeal.nD KernelIdeal.τ).loc KernelIdeal.main_arg10)
  ∧ m' ((c.tc : Thread ReferenceIdeal.nD ReferenceIdeal.τ).loc ReferenceIdeal.main_arg11) = m ((c.tc : Thread KernelIdeal.nD KernelIdeal.τ).loc KernelIdeal.main_arg11)
  ∧ m' ((c.tc : Thread ReferenceIdeal.nD ReferenceIdeal.τ).loc ReferenceIdeal.main_arg12) = m ((c.tc : Thread KernelIdeal.nD KernelIdeal.τ).loc KernelIdeal.main_arg12)
  ∧ m' ((c.tc : Thread ReferenceIdeal.nD ReferenceIdeal.τ).loc ReferenceIdeal.main_arg13) = m ((c.tc : Thread KernelIdeal.nD KernelIdeal.τ).loc KernelIdeal.main_arg13)
  ∧ m' ((c.tc : Thread ReferenceIdeal.nD ReferenceIdeal.τ).loc ReferenceIdeal.main_arg14) = m ((c.tc : Thread KernelIdeal.nD KernelIdeal.τ).loc KernelIdeal.main_arg14)
  ∧ m' ((c.tc : Thread ReferenceIdeal.nD ReferenceIdeal.τ).loc ReferenceIdeal.main_arg15) = m ((c.tc : Thread KernelIdeal.nD KernelIdeal.τ).loc KernelIdeal.main_arg15)

/-- The reference's result, from its arguments. -/
def reference (V : Valuation ReferenceIdeal.τ ReferenceIdeal.sig (Elt Ideal)) : Vec Ideal ReferenceIdeal.S64x2 .f32 :=
  RefLayers.scores (RefLayers.layer (ReferenceIdeal.Value.res_main_v89 V) (ReferenceIdeal.Value.res_main_v87 V)
      (ReferenceIdeal.Value.res_main_v165 V) (V ReferenceIdeal.main_arg11) (V ReferenceIdeal.main_arg12) (V ReferenceIdeal.main_arg13))
    (V ReferenceIdeal.main_arg14) (V ReferenceIdeal.main_arg15)

/-- The same arguments, read by their coordinates. -/
theorem args (h : Agree m m' c) : RefConv.args (StableHlo.launchContents m' c) = Fold.args m c := by
  obtain ⟨h0, h1, h2, h3, h4, h5, h6, h7, h8, h9, h10, h11, h12, h13, h14, h15⟩ := h
  unfold RefConv.args Fold.args
  rw [Spec.Args.mk.injEq]
  exact ⟨funext fun a => funext fun b => funext fun c => congrFun h0 _,
    funext fun a => funext fun b => funext fun c => congrFun h1 _,
    funext fun a => congrFun h2 _,
    funext fun a => funext fun b => funext fun c => funext fun d => congrFun h3 _,
    funext fun a => congrFun h4 _,
    funext fun a => funext fun b => congrFun h5 _,
    funext fun a => funext fun b => congrFun h6 _,
    funext fun a => congrFun h7 _,
    funext fun a => funext fun b => congrFun h8 _,
    funext fun a => funext fun b => congrFun h9 _,
    funext fun a => congrFun h10 _,
    funext fun a => funext fun b => congrFun h11 _,
    funext fun a => funext fun b => congrFun h12 _,
    funext fun a => congrFun h13 _,
    funext fun a => funext fun b => congrFun h14 _,
    funext fun a => congrFun h15 _⟩

/-- The same scores. -/
theorem result (h : Agree m m' c) : reference (StableHlo.launchContents m' c)
    = (KernelIdeal.Gen.W14 m ρ c KernelIdeal.main_v69 : Vec Ideal KernelIdeal.S64x2 .f32) := by
  funext y
  idx_vars y
  refine (RefLayers.result _ y0 y1).trans ?_
  rw [args m m' c h]
  exact (Layers.result m ρ c y0 y1).symm

end Cert.Equal
end
-- ==== Proof.lean ====
/-
  The certificate: the programs run and change no argument, the named constant is the rounded one, and over the extended
  reals the kernel's scores are the reference's.
-/
module

public import proofs.«01_k».proof.Defs
public import proofs.«01_k».proof.Proof.Gen.Kernel.Frame
public import proofs.«01_k».proof.Proof.KernelRun
public import proofs.«01_k».proof.Proof.Equal
public import Idealize.ShloMosaic.Lib.Quiescent

@[expose] public section

set_option maxRecDepth 16384

noncomputable section

namespace Cert.Proof

open Idealize.ShloMosaic Idealize.ShloMosaic.TcCoe Idealize.SL.Sem

/-- The reference runs, its arguments end unchanged, and every counter ends at zero: it has none. -/
theorem quiescent_reference : Cert.quiescent_ReferenceIdeal (hReferenceIdeal := ReferenceIdeal.Gen.facts) := fun m ρ _ =>
  (θ_run ReferenceIdeal.defs _ _).mono (fun r h => ⟨fun c => (h c).2, sem_eq_zero_of_no_sems (by decide) r.2⟩)
    (ReferenceIdeal.Value.run (F := Ideal) m ρ)

/-- From the same arguments, the same scores. -/
theorem algebraic : Cert.algebraic_KernelIdeal_ReferenceIdeal (hKernelIdeal := KernelIdeal.Gen.facts)
    (hReferenceIdeal := ReferenceIdeal.Gen.facts) := by
  intro m ρ m' ρ' _ hagree
  refine ⟨fun c => KernelIdeal.Gen.W14 m ρ c KernelIdeal.main_v69, ?_, ?_⟩
  · refine (θ_run KernelIdeal.defs _ _).mono (fun r h c => ?_) (KernelRun.run (F := Ideal) m ρ)
    have k : ∀ a : Ref KernelIdeal.sig .tc, Proc.devRef .tc a ∈ Pipeline.ucRefs KernelIdeal.τ KernelIdeal.sig →
        KernelIdeal.Gen.W14 m ρ c (Proc.devRef .tc a) = m ((c : Thread KernelIdeal.nD KernelIdeal.τ).loc a) →
        r.2.mem ((c.tc : Thread KernelIdeal.nD KernelIdeal.τ).loc a) = m ((c.tc : Thread KernelIdeal.nD KernelIdeal.τ).loc a) :=
      fun a ha e => (h c _ ha).trans e
    exact ⟨h c _ (KernelIdeal.Gen.mem_uc KernelIdeal.main_v69 (by decide)),
      k KernelIdeal.main_arg0 (KernelIdeal.Gen.mem_uc _ (by decide)) (KernelIdeal.Gen.W14_main_arg0 m ρ c),
      k KernelIdeal.main_arg1 (KernelIdeal.Gen.mem_uc _ (by decide)) (KernelIdeal.Gen.W14_main_arg1 m ρ c),
      k KernelIdeal.main_arg2 (KernelIdeal.Gen.mem_uc _ (by decide)) (KernelIdeal.Gen.W14_main_arg2 m ρ c),
      k KernelIdeal.main_arg3 (KernelIdeal.Gen.mem_uc _ (by decide)) (KernelIdeal.Gen.W14_main_arg3 m ρ c),
      k KernelIdeal.main_arg4 (KernelIdeal.Gen.mem_uc _ (by decide)) (KernelIdeal.Gen.W14_main_arg4 m ρ c),
      k KernelIdeal.main_arg5 (KernelIdeal.Gen.mem_uc _ (by decide)) (KernelIdeal.Gen.W14_main_arg5 m ρ c),
      k KernelIdeal.main_arg6 (KernelIdeal.Gen.mem_uc _ (by decide)) (KernelIdeal.Gen.W14_main_arg6 m ρ c),
      k KernelIdeal.main_arg7 (KernelIdeal.Gen.mem_uc _ (by decide)) (KernelIdeal.Gen.W14_main_arg7 m ρ c),
      k KernelIdeal.main_arg8 (KernelIdeal.Gen.mem_uc _ (by decide)) (KernelIdeal.Gen.W14_main_arg8 m ρ c),
      k KernelIdeal.main_arg9 (KernelIdeal.Gen.mem_uc _ (by decide)) (KernelIdeal.Gen.W14_main_arg9 m ρ c),
      k KernelIdeal.main_arg10 (KernelIdeal.Gen.mem_uc _ (by decide)) (KernelIdeal.Gen.W14_main_arg10 m ρ c),
      k KernelIdeal.main_arg11 (KernelIdeal.Gen.mem_uc _ (by decide)) (KernelIdeal.Gen.W14_main_arg11 m ρ c),
      k KernelIdeal.main_arg12 (KernelIdeal.Gen.mem_uc _ (by decide)) (KernelIdeal.Gen.W14_main_arg12 m ρ c),
      k KernelIdeal.main_arg13 (KernelIdeal.Gen.mem_uc _ (by decide)) (KernelIdeal.Gen.W14_main_arg13 m ρ c),
      k KernelIdeal.main_arg14 (KernelIdeal.Gen.mem_uc _ (by decide)) (KernelIdeal.Gen.W14_main_arg14 m ρ c),
      k KernelIdeal.main_arg15 (KernelIdeal.Gen.mem_uc _ (by decide)) (KernelIdeal.Gen.W14_main_arg15 m ρ c)⟩
  · refine (θ_run ReferenceIdeal.defs _ _).mono (fun r h c => ⟨(h c).1.trans ?_, (h c).2⟩) (ReferenceIdeal.Value.run (F := Ideal) m' ρ')
    exact Equal.result m ρ m' c (hagree c)

theorem claim : Cert.Claim := ⟨Kernel.Gen.facts, KernelIdeal.Gen.facts, ReferenceIdeal.Gen.facts,
  fun m ρ _ => Kernel.Gen.frame m ρ, fun m ρ _ => KernelIdeal.Gen.frame m ρ, quiescent_reference,
  IdealRules.named_const.statement KernelIdeal.κ "third" .f32 0x3EAAAAAB#32 ((1 / 3 : ℝ) : EReal) rfl, algebraic⟩

end Cert.Proof

end
